-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![16384, 1024]⟩ ⟨2, ![32768, 1024]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S2048 : Shape := ⟨1, ![2048]⟩
abbrev S16384x1024 : Shape := ⟨2, ![16384, 1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S16384x1024 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Pre_ids_in_range_ReferenceIdeal.lean ====
abbrev S2048 : Shape := ⟨1, ![2048]⟩
abbrev S32768x1024 : Shape := ⟨2, ![32768, 1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S32768x1024 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S2048 : Shape := ⟨1, ![2048]⟩
abbrev S16384x1024 : Shape := ⟨2, ![16384, 1024]⟩
abbrev S_ : Shape := ⟨0, ![]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩
abbrev S16 : Shape := ⟨1, ![16]⟩
abbrev S1 : Shape := ⟨1, ![1]⟩
abbrev S1x1024 : Shape := ⟨2, ![1, 1024]⟩
abbrev S64x1024 : Shape := ⟨2, ![64, 1024]⟩
abbrev S64x1 : Shape := ⟨2, ![64, 1]⟩

abbrev nBuf : Space → Nat
  | .hbm => 36
  | .vmem => 7
  | .smem => 1
  | _ => 0

abbrev bufTy : (tb : Table) → Fin (tcTables nBuf tb) → BufTy
  | .hbm, ⟨0, _⟩ => ⟨S2048, .i32⟩
  | .hbm, ⟨1, _⟩ => ⟨S16384x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1024, .i32⟩
  | .hbm, ⟨22, _⟩ => ⟨S_, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S1024, .i1⟩
  | .hbm, ⟨33, _⟩ => ⟨S1024, .f32⟩
  | .hbm, ⟨34, _⟩ => ⟨S1024x1, .f32⟩
  | .hbm, ⟨35, _⟩ => ⟨S2048x1024, .f32⟩
  | .local _ .vmem, ⟨0, _⟩ => ⟨S1024x1, .f32⟩
  | .local _ .vmem, ⟨1, _⟩ => ⟨S2048x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .smem, ⟨0, _⟩ => ⟨S1024, .i32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 1 83 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_c_5 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_6 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_7 : Ref sig .tc := ⟨.hbm, 26, rfl⟩
abbrev main_v17 : Ref sig .tc := ⟨.hbm, 27, rfl⟩
abbrev main_v18 : Ref sig .tc := ⟨.hbm, 28, rfl⟩
abbrev main_c_8 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v11 : BitVec 32 := Scalar.addi c0_i32 c64_i32
  let c1_i32_6 : BitVec 32 := 1#32
  ⟨c0_i32, v11, c1_i32_6⟩
def k0_off1 (k0_t1 : Fin k0_t1_loop.trips) : Fin 1 → Nat :=
  let c0_i32_1201 : BitVec 32 := 0#32
  let c0_i32 : BitVec 32 := 0#32
  let c1_i32_6 : BitVec 32 := 1#32
  let arg14 : BitVec 32 := Scf.iv c0_i32 c1_i32_6 k0_t1
  let v1172 : BitVec 32 := Scalar.addi c0_i32_1201 arg14
  let v1173 : Index := Scalar.indexCast v1172
  ![v1173.toNat]
def k0_off2 (k0_t1 : Fin k0_t1_loop.trips) : Fin 2 → Nat :=
  let c0_i32_1201 : BitVec 32 := 0#32
  let c0_i32 : BitVec 32 := 0#32
  let c1_i32_6 : BitVec 32 := 1#32
  let arg14 : BitVec 32 := Scf.iv c0_i32 c1_i32_6 k0_t1
  let v1172 : BitVec 32 := Scalar.addi c0_i32_1201 arg14
  let c0_i32_1204 : BitVec 32 := 0#32
  ![v1172.toNat, 0]
def k0_off3 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk1 (v1174 : BitVec 32) : Prop :=
  (∀ a, (k0_off3 v1174) a + S1x1024.size a ≤ S16384x1024.size a)
theorem k0_off3_inb : ∀ (v1174 : BitVec 32) (k0_hw1 : k0_chk1 v1174), ∀ a, (k0_off3 v1174) a + S1x1024.size a ≤ S16384x1024.size a := fun v1174 k0_hw1 => k0_hw1

@[reducible] def k0_t2_loop : Scf.Loop 32 :=
  let c0_i32_8 : BitVec 32 := 0#32
  let c64_i32_9 : BitVec 32 := 64#32
  let v12 : BitVec 32 := Scalar.addi c0_i32_8 c64_i32_9
  let c1_i32_10 : BitVec 32 := 1#32
  ⟨c0_i32_8, v12, c1_i32_10⟩
def k0_off4 (k0_t2 : Fin k0_t2_loop.trips) : Fin 1 → Nat :=
  let c64_i32_1201 : BitVec 32 := 64#32
  let c0_i32_8 : BitVec 32 := 0#32
  let c1_i32_10 : BitVec 32 := 1#32
  let arg14 : BitVec 32 := Scf.iv c0_i32_8 c1_i32_10 k0_t2
  let v1172 : BitVec 32 := Scalar.addi c64_i32_1201 arg14
  let v1173 : Index := Scalar.indexCast v1172
  ![v1173.toNat]
def k0_off5 (k0_t2 : Fin k0_t2_loop.trips) : Fin 2 → Nat :=
  let c64_i32_1201 : BitVec 32 := 64#32
  let c0_i32_8 : BitVec 32 := 0#32
  let c1_i32_10 : BitVec 32 := 1#32
  let arg14 : BitVec 32 := Scf.iv c0_i32_8 c1_i32_10 k0_t2
  let v1172 : BitVec 32 := Scalar.addi c64_i32_1201 arg14
  let c0_i32_1204 : BitVec 32 := 0#32
  ![v1172.toNat, 0]
def k0_off6 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk2 (v1174 : BitVec 32) : Prop :=
  (∀ a, (k0_off6 v1174) a + S1x1024.size a ≤ S16384x1024.size a)
theorem k0_off6_inb : ∀ (v1174 : BitVec 32) (k0_hw2 : k0_chk2 v1174), ∀ a, (k0_off6 v1174) a + S1x1024.size a ≤ S16384x1024.size a := fun v1174 k0_hw2 => k0_hw2

@[reducible] def k0_t3_loop : Scf.Loop 32 :=
  let c0_i32_12 : BitVec 32 := 0#32
  let c64_i32_13 : BitVec 32 := 64#32
  let v13 : BitVec 32 := Scalar.addi c0_i32_12 c64_i32_13
  let c1_i32_14 : BitVec 32 := 1#32
  ⟨c0_i32_12, v13, c1_i32_14⟩
def k0_off7 (k0_t3 : Fin k0_t3_loop.trips) : Fin 1 → Nat :=
  let c128_i32_1201 : BitVec 32 := 128#32
  let c0_i32_12 : BitVec 32 := 0#32
  let c1_i32_14 : BitVec 32 := 1#32
  let arg14 : BitVec 32 := Scf.iv c0_i32_12 c1_i32_14 k0_t3
  let v1172 : BitVec 32 := Scalar.addi c128_i32_1201 arg14
  let v1173 : Index := Scalar.indexCast v1172
  ![v1173.toNat]
def k0_off8 (k0_t3 : Fin k0_t3_loop.trips) : Fin 2 → Nat :=
  let c128_i32_1201 : BitVec 32 := 128#32
  let c0_i32_12 : BitVec 32 := 0#32
  let c1_i32_14 : BitVec 32 := 1#32
  let arg14 : BitVec 32 := Scf.iv c0_i32_12 c1_i32_14 k0_t3
  let v1172 : BitVec 32 := Scalar.addi c128_i32_1201 arg14
  let c0_i32_1204 : BitVec 32 := 0#32
  ![v1172.toNat, 0]
def k0_off9 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk3 (v1174 : BitVec 32) : Prop :=
  (∀ a, (k0_off9 v1174) a + S1x1024.size a ≤ S16384x1024.size a)
theorem k0_off9_inb : ∀ (v1174 : BitVec 32) (k0_hw3 : k0_chk3 v1174), ∀ a, (k0_off9 v1174) a + S1x1024.size a ≤ S16384x1024.size a := fun v1174 k0_hw3 => k0_hw3

def k0_dev1 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v15 : BitVec 32 := Scalar.muli v6 c2_i32_17
  let v16 : BitVec 32 := Scalar.addi c0_i32_18 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v17 : BitVec 32 := Scalar.muli v5 c1_i32_19
  let v18 : BitVec 32 := Scalar.addi v16 v17
  v18.toNat
def k0_dev2 (d0 : Dev nD) : Nat :=
  let c0_i32_22 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_21 : BitVec 32 := 2#32
  let v19 : BitVec 32 := Scalar.muli v2 c2_i32_21
  let v20 : BitVec 32 := Scalar.addi c0_i32_22 v19
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_23 : BitVec 32 := 1#32
  let v21 : BitVec 32 := Scalar.muli v7 c1_i32_23
  let v22 : BitVec 32 := Scalar.addi v20 v21
  v22.toNat
@[reducible] def k0_t4_loop : Scf.Loop 32 :=
  let c0_i32_25 : BitVec 32 := 0#32
  let c64_i32_26 : BitVec 32 := 64#32
  let v23 : BitVec 32 := Scalar.addi c0_i32_25 c64_i32_26
  let c1_i32_27 : BitVec 32 := 1#32
  ⟨c0_i32_25, v23, c1_i32_27⟩
def k0_off10 (k0_t4 : Fin k0_t4_loop.trips) : Fin 1 → Nat :=
  let c192_i32_1201 : BitVec 32 := 192#32
  let c0_i32_25 : BitVec 32 := 0#32
  let c1_i32_27 : BitVec 32 := 1#32
  let arg14 : BitVec 32 := Scf.iv c0_i32_25 c1_i32_27 k0_t4
  let v1172 : BitVec 32 := Scalar.addi c192_i32_1201 arg14
  let v1173 : Index := Scalar.indexCast v1172
  ![v1173.toNat]
def k0_off11 (k0_t4 : Fin k0_t4_loop.trips) : Fin 2 → Nat :=
  let c192_i32_1201 : BitVec 32 := 192#32
  let c0_i32_25 : BitVec 32 := 0#32
  let c1_i32_27 : BitVec 32 := 1#32
  let arg14 : BitVec 32 := Scf.iv c0_i32_25 c1_i32_27 k0_t4
  let v1172 : BitVec 32 := Scalar.addi c192_i32_1201 arg14
  let c0_i32_1204 : BitVec 32 := 0#32
  ![v1172.toNat, 0]
def k0_off12 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk4 (v1174 : BitVec 32) : Prop :=
  (∀ a, (k0_off12 v1174) a + S1x1024.size a ≤ S16384x1024.size a)
theorem k0_off12_inb : ∀ (v1174 : BitVec 32) (k0_hw4 : k0_chk4 v1174), ∀ a, (k0_off12 v1174) a + S1x1024.size a ≤ S16384x1024.size a := fun v1174 k0_hw4 => k0_hw4

@[reducible] def k0_t5_loop : Scf.Loop 32 :=
  let c0_i32_29 : BitVec 32 := 0#32
  let c64_i32_30 : BitVec 32 := 64#32
  let v24 : BitVec 32 := Scalar.addi c0_i32_29 c64_i32_30
  let c1_i32_31 : BitVec 32 := 1#32
  ⟨c0_i32_29, v24, c1_i32_31⟩
def k0_off13 (k0_t5 : Fin k0_t5_loop.trips) : Fin 2 → Nat :=
  let c0_i32_1201 : BitVec 32 := 0#32
  let c0_i32_29 : BitVec 32 := 0#32
  let c1_i32_31 : BitVec 32 := 1#32
  let arg14 : BitVec 32 := Scf.iv c0_i32_29 c1_i32_31 k0_t5
  let v1172 : BitVec 32 := Scalar.addi c0_i32_1201 arg14
  let c0_i32_1203 : BitVec 32 := 0#32
  ![v1172.toNat, 0]
def k0_dev3 (d0 : Dev nD) : Nat :=
  let c0_i32_39 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_38 : BitVec 32 := 2#32
  let v30 : BitVec 32 := Scalar.muli v6 c2_i32_38
  let v31 : BitVec 32 := Scalar.addi c0_i32_39 v30
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_40 : BitVec 32 := 1#32
  let v32 : BitVec 32 := Scalar.muli v5 c1_i32_40
  let v33 : BitVec 32 := Scalar.addi v31 v32
  v33.toNat
@[reducible] def k0_t6_loop : Scf.Loop 32 :=
  let c0_i32_45 : BitVec 32 := 0#32
  let c64_i32_46 : BitVec 32 := 64#32
  let v40 : BitVec 32 := Scalar.addi c0_i32_45 c64_i32_46
  let c1_i32_47 : BitVec 32 := 1#32
  ⟨c0_i32_45, v40, c1_i32_47⟩
def k0_off14 (k0_t6 : Fin k0_t6_loop.trips) : Fin 1 → Nat :=
  let c256_i32_1201 : BitVec 32 := 256#32
  let c0_i32_45 : BitVec 32 := 0#32
  let c1_i32_47 : BitVec 32 := 1#32
  let arg14 : BitVec 32 := Scf.iv c0_i32_45 c1_i32_47 k0_t6
  let v1172 : BitVec 32 := Scalar.addi c256_i32_1201 arg14
  let v1173 : Index := Scalar.indexCast v1172
  ![v1173.toNat]
def k0_off15 (k0_t6 : Fin k0_t6_loop.trips) : Fin 2 → Nat :=
  let c256_i32_1201 : BitVec 32 := 256#32
  let c0_i32_45 : BitVec 32 := 0#32
  let c1_i32_47 : BitVec 32 := 1#32
  let arg14 : BitVec 32 := Scf.iv c0_i32_45 c1_i32_47 k0_t6
  let v1172 : BitVec 32 := Scalar.addi c256_i32_1201 arg14
  let c0_i32_1204 : BitVec 32 := 0#32
  ![v1172.toNat, 0]
def k0_off16 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk5 (v1174 : BitVec 32) : Prop :=
  (∀ a, (k0_off16 v1174) a + S1x1024.size a ≤ S16384x1024.size a)
theorem k0_off16_inb : ∀ (v1174 : BitVec 32) (k0_hw5 : k0_chk5 v1174), ∀ a, (k0_off16 v1174) a + S1x1024.size a ≤ S16384x1024.size a := fun v1174 k0_hw5 => k0_hw5

@[reducible] def k0_t7_loop : Scf.Loop 32 :=
  let c0_i32_49 : BitVec 32 := 0#32
  let c64_i32_50 : BitVec 32 := 64#32
  let v41 : BitVec 32 := Scalar.addi c0_i32_49 c64_i32_50
  let c1_i32_51 : BitVec 32 := 1#32
  ⟨c0_i32_49, v41, c1_i32_51⟩
def k0_off17 (k0_t7 : Fin k0_t7_loop.trips) : Fin 2 → Nat :=
  let c64_i32_1201 : BitVec 32 := 64#32
  let c0_i32_49 : BitVec 32 := 0#32
  let c1_i32_51 : BitVec 32 := 1#32
  let arg14 : BitVec 32 := Scf.iv c0_i32_49 c1_i32_51 k0_t7
  let v1172 : BitVec 32 := Scalar.addi c64_i32_1201 arg14
  let c0_i32_1203 : BitVec 32 := 0#32
  ![v1172.toNat, 0]
def k0_dev4 (d0 : Dev nD) : Nat :=
  let c0_i32_59 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_58 : BitVec 32 := 2#32
  let v47 : BitVec 32 := Scalar.muli v6 c2_i32_58
  let v48 : BitVec 32 := Scalar.addi c0_i32_59 v47
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v49 : BitVec 32 := Scalar.muli v5 c1_i32_60
  let v50 : BitVec 32 := Scalar.addi v48 v49
  v50.toNat
@[reducible] def k0_t8_loop : Scf.Loop 32 :=
  let c0_i32_65 : BitVec 32 := 0#32
  let c64_i32_66 : BitVec 32 := 64#32
  let v57 : BitVec 32 := Scalar.addi c0_i32_65 c64_i32_66
  let c1_i32_67 : BitVec 32 := 1#32
  ⟨c0_i32_65, v57, c1_i32_67⟩
def k0_off18 (k0_t8 : Fin k0_t8_loop.trips) : Fin 1 → Nat :=
  let c320_i32_1201 : BitVec 32 := 320#32
  let c0_i32_65 : BitVec 32 := 0#32
  let c1_i32_67 : BitVec 32 := 1#32
  let arg14 : BitVec 32 := Scf.iv c0_i32_65 c1_i32_67 k0_t8
  let v1172 : BitVec 32 := Scalar.addi c320_i32_1201 arg14
  let v1173 : Index := Scalar.indexCast v1172
  ![v1173.toNat]
def k0_off19 (k0_t8 : Fin k0_t8_loop.trips) : Fin 2 → Nat :=
  let c320_i32_1201 : BitVec 32 := 320#32
  let c0_i32_65 : BitVec 32 := 0#32
  let c1_i32_67 : BitVec 32 := 1#32
  let arg14 : BitVec 32 := Scf.iv c0_i32_65 c1_i32_67 k0_t8
  let v1172 : BitVec 32 := Scalar.addi c320_i32_1201 arg14
  let c0_i32_1204 : BitVec 32 := 0#32
  ![v1172.toNat, 0]
def k0_off20 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk6 (v1174 : BitVec 32) : Prop :=
  (∀ a, (k0_off20 v1174) a + S1x1024.size a ≤ S16384x1024.size a)
theorem k0_off20_inb : ∀ (v1174 : BitVec 32) (k0_hw6 : k0_chk6 v1174), ∀ a, (k0_off20 v1174) a + S1x1024.size a ≤ S16384x1024.size a := fun v1174 k0_hw6 => k0_hw6

@[reducible] def k0_t9_loop : Scf.Loop 32 :=
  let c0_i32_69 : BitVec 32 := 0#32
  let c64_i32_70 : BitVec 32 := 64#32
  let v58 : BitVec 32 := Scalar.addi c0_i32_69 c64_i32_70
  let c1_i32_71 : BitVec 32 := 1#32
  ⟨c0_i32_69, v58, c1_i32_71⟩
def k0_off21 (k0_t9 : Fin k0_t9_loop.trips) : Fin 2 → Nat :=
  let c128_i32_1201 : BitVec 32 := 128#32
  let c0_i32_69 : BitVec 32 := 0#32
  let c1_i32_71 : BitVec 32 := 1#32
  let arg14 : BitVec 32 := Scf.iv c0_i32_69 c1_i32_71 k0_t9
  let v1172 : BitVec 32 := Scalar.addi c128_i32_1201 arg14
  let c0_i32_1203 : BitVec 32 := 0#32
  ![v1172.toNat, 0]
def k0_dev5 (d0 : Dev nD) : Nat :=
  let c0_i32_79 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_78 : BitVec 32 := 2#32
  let v64 : BitVec 32 := Scalar.muli v6 c2_i32_78
  let v65 : BitVec 32 := Scalar.addi c0_i32_79 v64
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_80 : BitVec 32 := 1#32
  let v66 : BitVec 32 := Scalar.muli v5 c1_i32_80
  let v67 : BitVec 32 := Scalar.addi v65 v66
  v67.toNat
@[reducible] def k0_t10_loop : Scf.Loop 32 :=
  let c0_i32_84 : BitVec 32 := 0#32
  let c64_i32_85 : BitVec 32 := 64#32
  let v74 : BitVec 32 := Scalar.addi c0_i32_84 c64_i32_85
  let c1_i32_86 : BitVec 32 := 1#32
  ⟨c0_i32_84, v74, c1_i32_86⟩
def k0_off22 (k0_t10 : Fin k0_t10_loop.trips) : Fin 1 → Nat :=
  let c384_i32_1201 : BitVec 32 := 384#32
  let c0_i32_84 : BitVec 32 := 0#32
  let c1_i32_86 : BitVec 32 := 1#32
  let arg14 : BitVec 32 := Scf.iv c0_i32_84 c1_i32_86 k0_t10
  let v1172 : BitVec 32 := Scalar.addi c384_i32_1201 arg14
  let v1173 : Index := Scalar.indexCast v1172
  ![v1173.toNat]
def k0_off23 (k0_t10 : Fin k0_t10_loop.trips) : Fin 2 → Nat :=
  let c384_i32_1201 : BitVec 32 := 384#32
  let c0_i32_84 : BitVec 32 := 0#32
  let c1_i32_86 : BitVec 32 := 1#32
  let arg14 : BitVec 32 := Scf.iv c0_i32_84 c1_i32_86 k0_t10
  let v1172 : BitVec 32 := Scalar.addi c384_i32_1201 arg14
  let c0_i32_1204 : BitVec 32 := 0#32
  ![v1172.toNat, 0]
def k0_off24 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk7 (v1174 : BitVec 32) : Prop :=
  (∀ a, (k0_off24 v1174) a + S1x1024.size a ≤ S16384x1024.size a)
theorem k0_off24_inb : ∀ (v1174 : BitVec 32) (k0_hw7 : k0_chk7 v1174), ∀ a, (k0_off24 v1174) a + S1x1024.size a ≤ S16384x1024.size a := fun v1174 k0_hw7 => k0_hw7

def k0_off25 (d0 : Dev nD) (c0_i32_97 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v8 : BitVec 32 := Scalar.muli v5 c1024_i32
  let v83 : BitVec 32 := Scalar.addi v8 c0_i32_97
  let v97 : Index := Scalar.indexCast v83
  let c0_106 : Index := 0#32
  ![v97.toNat, 0]
def k0_dev6 (d0 : Dev nD) : Nat :=
  let c0_i32_110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_109 : BitVec 32 := 2#32
  let v99 : BitVec 32 := Scalar.muli v2 c2_i32_109
  let v100 : BitVec 32 := Scalar.addi c0_i32_110 v99
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_111 : BitVec 32 := 1#32
  let v101 : BitVec 32 := Scalar.muli v7 c1_i32_111
  let v102 : BitVec 32 := Scalar.addi v100 v101
  v102.toNat
@[reducible] def k0_t11_loop : Scf.Loop 32 :=
  let c0_i32_116 : BitVec 32 := 0#32
  let c64_i32_117 : BitVec 32 := 64#32
  let v109 : BitVec 32 := Scalar.addi c0_i32_116 c64_i32_117
  let c1_i32_118 : BitVec 32 := 1#32
  ⟨c0_i32_116, v109, c1_i32_118⟩
def k0_off26 (k0_t11 : Fin k0_t11_loop.trips) : Fin 2 → Nat :=
  let c192_i32_1201 : BitVec 32 := 192#32
  let c0_i32_116 : BitVec 32 := 0#32
  let c1_i32_118 : BitVec 32 := 1#32
  let arg14 : BitVec 32 := Scf.iv c0_i32_116 c1_i32_118 k0_t11
  let v1172 : BitVec 32 := Scalar.addi c192_i32_1201 arg14
  let c0_i32_1203 : BitVec 32 := 0#32
  ![v1172.toNat, 0]
def k0_dev7 (d0 : Dev nD) : Nat :=
  let c0_i32_125 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_124 : BitVec 32 := 2#32
  let v115 : BitVec 32 := Scalar.muli v6 c2_i32_124
  let v116 : BitVec 32 := Scalar.addi c0_i32_125 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_126 : BitVec 32 := 1#32
  let v117 : BitVec 32 := Scalar.muli v5 c1_i32_126
  let v118 : BitVec 32 := Scalar.addi v116 v117
  v118.toNat
@[reducible] def k0_t12_loop : Scf.Loop 32 :=
  let c0_i32_130 : BitVec 32 := 0#32
  let c64_i32_131 : BitVec 32 := 64#32
  let v125 : BitVec 32 := Scalar.addi c0_i32_130 c64_i32_131
  let c1_i32_132 : BitVec 32 := 1#32
  ⟨c0_i32_130, v125, c1_i32_132⟩
def k0_off27 (k0_t12 : Fin k0_t12_loop.trips) : Fin 1 → Nat :=
  let c448_i32_1201 : BitVec 32 := 448#32
  let c0_i32_130 : BitVec 32 := 0#32
  let c1_i32_132 : BitVec 32 := 1#32
  let arg14 : BitVec 32 := Scf.iv c0_i32_130 c1_i32_132 k0_t12
  let v1172 : BitVec 32 := Scalar.addi c448_i32_1201 arg14
  let v1173 : Index := Scalar.indexCast v1172
  ![v1173.toNat]
def k0_off28 (k0_t12 : Fin k0_t12_loop.trips) : Fin 2 → Nat :=
  let c448_i32_1201 : BitVec 32 := 448#32
  let c0_i32_130 : BitVec 32 := 0#32
  let c1_i32_132 : BitVec 32 := 1#32
  let arg14 : BitVec 32 := Scf.iv c0_i32_130 c1_i32_132 k0_t12
  let v1172 : BitVec 32 := Scalar.addi c448_i32_1201 arg14
  let c0_i32_1204 : BitVec 32 := 0#32
  ![v1172.toNat, 0]
def k0_off29 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk8 (v1174 : BitVec 32) : Prop :=
  (∀ a, (k0_off29 v1174) a + S1x1024.size a ≤ S16384x1024.size a)
theorem k0_off29_inb : ∀ (v1174 : BitVec 32) (k0_hw8 : k0_chk8 v1174), ∀ a, (k0_off29 v1174) a + S1x1024.size a ≤ S16384x1024.size a := fun v1174 k0_hw8 => k0_hw8

def k0_dev8 (d0 : Dev nD) : Nat :=
  let c0_i32_157 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_156 : BitVec 32 := 2#32
  let v150 : BitVec 32 := Scalar.muli v2 c2_i32_156
  let v151 : BitVec 32 := Scalar.addi c0_i32_157 v150
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_158 : BitVec 32 := 1#32
  let v152 : BitVec 32 := Scalar.muli v7 c1_i32_158
  let v153 : BitVec 32 := Scalar.addi v151 v152
  v153.toNat
@[reducible] def k0_t13_loop : Scf.Loop 32 :=
  let c0_i32_163 : BitVec 32 := 0#32
  let c64_i32_164 : BitVec 32 := 64#32
  let v160 : BitVec 32 := Scalar.addi c0_i32_163 c64_i32_164
  let c1_i32_165 : BitVec 32 := 1#32
  ⟨c0_i32_163, v160, c1_i32_165⟩
def k0_off30 (k0_t13 : Fin k0_t13_loop.trips) : Fin 2 → Nat :=
  let c256_i32_1201 : BitVec 32 := 256#32
  let c0_i32_163 : BitVec 32 := 0#32
  let c1_i32_165 : BitVec 32 := 1#32
  let arg14 : BitVec 32 := Scf.iv c0_i32_163 c1_i32_165 k0_t13
  let v1172 : BitVec 32 := Scalar.addi c256_i32_1201 arg14
  let c0_i32_1203 : BitVec 32 := 0#32
  ![v1172.toNat, 0]
def k0_dev9 (d0 : Dev nD) : Nat :=
  let c0_i32_172 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_171 : BitVec 32 := 2#32
  let v166 : BitVec 32 := Scalar.muli v6 c2_i32_171
  let v167 : BitVec 32 := Scalar.addi c0_i32_172 v166
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_173 : BitVec 32 := 1#32
  let v168 : BitVec 32 := Scalar.muli v5 c1_i32_173
  let v169 : BitVec 32 := Scalar.addi v167 v168
  v169.toNat
@[reducible] def k0_t14_loop : Scf.Loop 32 :=
  let c0_i32_177 : BitVec 32 := 0#32
  let c64_i32_178 : BitVec 32 := 64#32
  let v176 : BitVec 32 := Scalar.addi c0_i32_177 c64_i32_178
  let c1_i32_179 : BitVec 32 := 1#32
  ⟨c0_i32_177, v176, c1_i32_179⟩
def k0_off31 (k0_t14 : Fin k0_t14_loop.trips) : Fin 1 → Nat :=
  let c512_i32_1201 : BitVec 32 := 512#32
  let c0_i32_177 : BitVec 32 := 0#32
  let c1_i32_179 : BitVec 32 := 1#32
  let arg14 : BitVec 32 := Scf.iv c0_i32_177 c1_i32_179 k0_t14
  let v1172 : BitVec 32 := Scalar.addi c512_i32_1201 arg14
  let v1173 : Index := Scalar.indexCast v1172
  ![v1173.toNat]
def k0_off32 (k0_t14 : Fin k0_t14_loop.trips) : Fin 2 → Nat :=
  let c512_i32_1201 : BitVec 32 := 512#32
  let c0_i32_177 : BitVec 32 := 0#32
  let c1_i32_179 : BitVec 32 := 1#32
  let arg14 : BitVec 32 := Scf.iv c0_i32_177 c1_i32_179 k0_t14
  let v1172 : BitVec 32 := Scalar.addi c512_i32_1201 arg14
  let c0_i32_1204 : BitVec 32 := 0#32
  ![v1172.toNat, 0]
def k0_off33 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk9 (v1174 : BitVec 32) : Prop :=
  (∀ a, (k0_off33 v1174) a + S1x1024.size a ≤ S16384x1024.size a)
theorem k0_off33_inb : ∀ (v1174 : BitVec 32) (k0_hw9 : k0_chk9 v1174), ∀ a, (k0_off33 v1174) a + S1x1024.size a ≤ S16384x1024.size a := fun v1174 k0_hw9 => k0_hw9

def k0_dev10 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_203 : BitVec 32 := 2#32
  let v201 : BitVec 32 := Scalar.muli v2 c2_i32_203
  let v202 : BitVec 32 := Scalar.addi c0_i32_204 v201
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_205 : BitVec 32 := 1#32
  let v203 : BitVec 32 := Scalar.muli v7 c1_i32_205
  let v204 : BitVec 32 := Scalar.addi v202 v203
  v204.toNat
@[reducible] def k0_t15_loop : Scf.Loop 32 :=
  let c0_i32_210 : BitVec 32 := 0#32
  let c64_i32_211 : BitVec 32 := 64#32
  let v211 : BitVec 32 := Scalar.addi c0_i32_210 c64_i32_211
  let c1_i32_212 : BitVec 32 := 1#32
  ⟨c0_i32_210, v211, c1_i32_212⟩
def k0_off34 (k0_t15 : Fin k0_t15_loop.trips) : Fin 2 → Nat :=
  let c320_i32_1201 : BitVec 32 := 320#32
  let c0_i32_210 : BitVec 32 := 0#32
  let c1_i32_212 : BitVec 32 := 1#32
  let arg14 : BitVec 32 := Scf.iv c0_i32_210 c1_i32_212 k0_t15
  let v1172 : BitVec 32 := Scalar.addi c320_i32_1201 arg14
  let c0_i32_1203 : BitVec 32 := 0#32
  ![v1172.toNat, 0]
def k0_dev11 (d0 : Dev nD) : Nat :=
  let c0_i32_219 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_218 : BitVec 32 := 2#32
  let v217 : BitVec 32 := Scalar.muli v6 c2_i32_218
  let v218 : BitVec 32 := Scalar.addi c0_i32_219 v217
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_220 : BitVec 32 := 1#32
  let v219 : BitVec 32 := Scalar.muli v5 c1_i32_220
  let v220 : BitVec 32 := Scalar.addi v218 v219
  v220.toNat
@[reducible] def k0_t16_loop : Scf.Loop 32 :=
  let c0_i32_224 : BitVec 32 := 0#32
  let c64_i32_225 : BitVec 32 := 64#32
  let v227 : BitVec 32 := Scalar.addi c0_i32_224 c64_i32_225
  let c1_i32_226 : BitVec 32 := 1#32
  ⟨c0_i32_224, v227, c1_i32_226⟩
def k0_off35 (k0_t16 : Fin k0_t16_loop.trips) : Fin 1 → Nat :=
  let c576_i32_1201 : BitVec 32 := 576#32
  let c0_i32_224 : BitVec 32 := 0#32
  let c1_i32_226 : BitVec 32 := 1#32
  let arg14 : BitVec 32 := Scf.iv c0_i32_224 c1_i32_226 k0_t16
  let v1172 : BitVec 32 := Scalar.addi c576_i32_1201 arg14
  let v1173 : Index := Scalar.indexCast v1172
  ![v1173.toNat]
def k0_off36 (k0_t16 : Fin k0_t16_loop.trips) : Fin 2 → Nat :=
  let c576_i32_1201 : BitVec 32 := 576#32
  let c0_i32_224 : BitVec 32 := 0#32
  let c1_i32_226 : BitVec 32 := 1#32
  let arg14 : BitVec 32 := Scf.iv c0_i32_224 c1_i32_226 k0_t16
  let v1172 : BitVec 32 := Scalar.addi c576_i32_1201 arg14
  let c0_i32_1204 : BitVec 32 := 0#32
  ![v1172.toNat, 0]
def k0_off37 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk10 (v1174 : BitVec 32) : Prop :=
  (∀ a, (k0_off37 v1174) a + S1x1024.size a ≤ S16384x1024.size a)
theorem k0_off37_inb : ∀ (v1174 : BitVec 32) (k0_hw10 : k0_chk10 v1174), ∀ a, (k0_off37 v1174) a + S1x1024.size a ≤ S16384x1024.size a := fun v1174 k0_hw10 => k0_hw10

def k0_dev12 (d0 : Dev nD) : Nat :=
  let c0_i32_251 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_250 : BitVec 32 := 2#32
  let v252 : BitVec 32 := Scalar.muli v2 c2_i32_250
  let v253 : BitVec 32 := Scalar.addi c0_i32_251 v252
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_252 : BitVec 32 := 1#32
  let v254 : BitVec 32 := Scalar.muli v7 c1_i32_252
  let v255 : BitVec 32 := Scalar.addi v253 v254
  v255.toNat
@[reducible] def k0_t17_loop : Scf.Loop 32 :=
  let c0_i32_257 : BitVec 32 := 0#32
  let c64_i32_258 : BitVec 32 := 64#32
  let v262 : BitVec 32 := Scalar.addi c0_i32_257 c64_i32_258
  let c1_i32_259 : BitVec 32 := 1#32
  ⟨c0_i32_257, v262, c1_i32_259⟩
def k0_off38 (k0_t17 : Fin k0_t17_loop.trips) : Fin 2 → Nat :=
  let c384_i32_1201 : BitVec 32 := 384#32
  let c0_i32_257 : BitVec 32 := 0#32
  let c1_i32_259 : BitVec 32 := 1#32
  let arg14 : BitVec 32 := Scf.iv c0_i32_257 c1_i32_259 k0_t17
  let v1172 : BitVec 32 := Scalar.addi c384_i32_1201 arg14
  let c0_i32_1203 : BitVec 32 := 0#32
  ![v1172.toNat, 0]
def k0_dev13 (d0 : Dev nD) : Nat :=
  let c0_i32_266 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_265 : BitVec 32 := 2#32
  let v268 : BitVec 32 := Scalar.muli v6 c2_i32_265
  let v269 : BitVec 32 := Scalar.addi c0_i32_266 v268
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_267 : BitVec 32 := 1#32
  let v270 : BitVec 32 := Scalar.muli v5 c1_i32_267
  let v271 : BitVec 32 := Scalar.addi v269 v270
  v271.toNat
@[reducible] def k0_t18_loop : Scf.Loop 32 :=
  let c0_i32_271 : BitVec 32 := 0#32
  let c64_i32_272 : BitVec 32 := 64#32
  let v278 : BitVec 32 := Scalar.addi c0_i32_271 c64_i32_272
  let c1_i32_273 : BitVec 32 := 1#32
  ⟨c0_i32_271, v278, c1_i32_273⟩
def k0_off39 (k0_t18 : Fin k0_t18_loop.trips) : Fin 1 → Nat :=
  let c640_i32_1201 : BitVec 32 := 640#32
  let c0_i32_271 : BitVec 32 := 0#32
  let c1_i32_273 : BitVec 32 := 1#32
  let arg14 : BitVec 32 := Scf.iv c0_i32_271 c1_i32_273 k0_t18
  let v1172 : BitVec 32 := Scalar.addi c640_i32_1201 arg14
  let v1173 : Index := Scalar.indexCast v1172
  ![v1173.toNat]
def k0_off40 (k0_t18 : Fin k0_t18_loop.trips) : Fin 2 → Nat :=
  let c640_i32_1201 : BitVec 32 := 640#32
  let c0_i32_271 : BitVec 32 := 0#32
  let c1_i32_273 : BitVec 32 := 1#32
  let arg14 : BitVec 32 := Scf.iv c0_i32_271 c1_i32_273 k0_t18
  let v1172 : BitVec 32 := Scalar.addi c640_i32_1201 arg14
  let c0_i32_1204 : BitVec 32 := 0#32
  ![v1172.toNat, 0]
def k0_off41 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk11 (v1174 : BitVec 32) : Prop :=
  (∀ a, (k0_off41 v1174) a + S1x1024.size a ≤ S16384x1024.size a)
theorem k0_off41_inb : ∀ (v1174 : BitVec 32) (k0_hw11 : k0_chk11 v1174), ∀ a, (k0_off41 v1174) a + S1x1024.size a ≤ S16384x1024.size a := fun v1174 k0_hw11 => k0_hw11

def k0_dev14 (d0 : Dev nD) : Nat :=
  let c0_i32_298 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_297 : BitVec 32 := 2#32
  let v303 : BitVec 32 := Scalar.muli v2 c2_i32_297
  let v304 : BitVec 32 := Scalar.addi c0_i32_298 v303
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_299 : BitVec 32 := 1#32
  let v305 : BitVec 32 := Scalar.muli v7 c1_i32_299
  let v306 : BitVec 32 := Scalar.addi v304 v305
  v306.toNat
@[reducible] def k0_t19_loop : Scf.Loop 32 :=
  let c0_i32_304 : BitVec 32 := 0#32
  let c64_i32_305 : BitVec 32 := 64#32
  let v313 : BitVec 32 := Scalar.addi c0_i32_304 c64_i32_305
  let c1_i32_306 : BitVec 32 := 1#32
  ⟨c0_i32_304, v313, c1_i32_306⟩
def k0_off42 (k0_t19 : Fin k0_t19_loop.trips) : Fin 2 → Nat :=
  let c448_i32_1201 : BitVec 32 := 448#32
  let c0_i32_304 : BitVec 32 := 0#32
  let c1_i32_306 : BitVec 32 := 1#32
  let arg14 : BitVec 32 := Scf.iv c0_i32_304 c1_i32_306 k0_t19
  let v1172 : BitVec 32 := Scalar.addi c448_i32_1201 arg14
  let c0_i32_1203 : BitVec 32 := 0#32
  ![v1172.toNat, 0]
def k0_dev15 (d0 : Dev nD) : Nat :=
  let c0_i32_313 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_312 : BitVec 32 := 2#32
  let v319 : BitVec 32 := Scalar.muli v6 c2_i32_312
  let v320 : BitVec 32 := Scalar.addi c0_i32_313 v319
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_314 : BitVec 32 := 1#32
  let v321 : BitVec 32 := Scalar.muli v5 c1_i32_314
  let v322 : BitVec 32 := Scalar.addi v320 v321
  v322.toNat
@[reducible] def k0_t20_loop : Scf.Loop 32 :=
  let c0_i32_318 : BitVec 32 := 0#32
  let c64_i32_319 : BitVec 32 := 64#32
  let v329 : BitVec 32 := Scalar.addi c0_i32_318 c64_i32_319
  let c1_i32_320 : BitVec 32 := 1#32
  ⟨c0_i32_318, v329, c1_i32_320⟩
def k0_off43 (k0_t20 : Fin k0_t20_loop.trips) : Fin 1 → Nat :=
  let c704_i32_1201 : BitVec 32 := 704#32
  let c0_i32_318 : BitVec 32 := 0#32
  let c1_i32_320 : BitVec 32 := 1#32
  let arg14 : BitVec 32 := Scf.iv c0_i32_318 c1_i32_320 k0_t20
  let v1172 : BitVec 32 := Scalar.addi c704_i32_1201 arg14
  let v1173 : Index := Scalar.indexCast v1172
  ![v1173.toNat]
def k0_off44 (k0_t20 : Fin k0_t20_loop.trips) : Fin 2 → Nat :=
  let c704_i32_1201 : BitVec 32 := 704#32
  let c0_i32_318 : BitVec 32 := 0#32
  let c1_i32_320 : BitVec 32 := 1#32
  let arg14 : BitVec 32 := Scf.iv c0_i32_318 c1_i32_320 k0_t20
  let v1172 : BitVec 32 := Scalar.addi c704_i32_1201 arg14
  let c0_i32_1204 : BitVec 32 := 0#32
  ![v1172.toNat, 0]
def k0_off45 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk12 (v1174 : BitVec 32) : Prop :=
  (∀ a, (k0_off45 v1174) a + S1x1024.size a ≤ S16384x1024.size a)
theorem k0_off45_inb : ∀ (v1174 : BitVec 32) (k0_hw12 : k0_chk12 v1174), ∀ a, (k0_off45 v1174) a + S1x1024.size a ≤ S16384x1024.size a := fun v1174 k0_hw12 => k0_hw12

def k0_dev16 (d0 : Dev nD) : Nat :=
  let c0_i32_345 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_344 : BitVec 32 := 2#32
  let v354 : BitVec 32 := Scalar.muli v2 c2_i32_344
  let v355 : BitVec 32 := Scalar.addi c0_i32_345 v354
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_346 : BitVec 32 := 1#32
  let v356 : BitVec 32 := Scalar.muli v7 c1_i32_346
  let v357 : BitVec 32 := Scalar.addi v355 v356
  v357.toNat
@[reducible] def k0_t21_loop : Scf.Loop 32 :=
  let c0_i32_351 : BitVec 32 := 0#32
  let c64_i32_352 : BitVec 32 := 64#32
  let v364 : BitVec 32 := Scalar.addi c0_i32_351 c64_i32_352
  let c1_i32_353 : BitVec 32 := 1#32
  ⟨c0_i32_351, v364, c1_i32_353⟩
def k0_off46 (k0_t21 : Fin k0_t21_loop.trips) : Fin 2 → Nat :=
  let c512_i32_1201 : BitVec 32 := 512#32
  let c0_i32_351 : BitVec 32 := 0#32
  let c1_i32_353 : BitVec 32 := 1#32
  let arg14 : BitVec 32 := Scf.iv c0_i32_351 c1_i32_353 k0_t21
  let v1172 : BitVec 32 := Scalar.addi c512_i32_1201 arg14
  let c0_i32_1203 : BitVec 32 := 0#32
  ![v1172.toNat, 0]
def k0_dev17 (d0 : Dev nD) : Nat :=
  let c0_i32_360 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_359 : BitVec 32 := 2#32
  let v370 : BitVec 32 := Scalar.muli v6 c2_i32_359
  let v371 : BitVec 32 := Scalar.addi c0_i32_360 v370
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_361 : BitVec 32 := 1#32
  let v372 : BitVec 32 := Scalar.muli v5 c1_i32_361
  let v373 : BitVec 32 := Scalar.addi v371 v372
  v373.toNat
@[reducible] def k0_t22_loop : Scf.Loop 32 :=
  let c0_i32_365 : BitVec 32 := 0#32
  let c64_i32_366 : BitVec 32 := 64#32
  let v380 : BitVec 32 := Scalar.addi c0_i32_365 c64_i32_366
  let c1_i32_367 : BitVec 32 := 1#32
  ⟨c0_i32_365, v380, c1_i32_367⟩
def k0_off47 (k0_t22 : Fin k0_t22_loop.trips) : Fin 1 → Nat :=
  let c768_i32_1201 : BitVec 32 := 768#32
  let c0_i32_365 : BitVec 32 := 0#32
  let c1_i32_367 : BitVec 32 := 1#32
  let arg14 : BitVec 32 := Scf.iv c0_i32_365 c1_i32_367 k0_t22
  let v1172 : BitVec 32 := Scalar.addi c768_i32_1201 arg14
  let v1173 : Index := Scalar.indexCast v1172
  ![v1173.toNat]
def k0_off48 (k0_t22 : Fin k0_t22_loop.trips) : Fin 2 → Nat :=
  let c768_i32_1201 : BitVec 32 := 768#32
  let c0_i32_365 : BitVec 32 := 0#32
  let c1_i32_367 : BitVec 32 := 1#32
  let arg14 : BitVec 32 := Scf.iv c0_i32_365 c1_i32_367 k0_t22
  let v1172 : BitVec 32 := Scalar.addi c768_i32_1201 arg14
  let c0_i32_1204 : BitVec 32 := 0#32
  ![v1172.toNat, 0]
def k0_off49 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk13 (v1174 : BitVec 32) : Prop :=
  (∀ a, (k0_off49 v1174) a + S1x1024.size a ≤ S16384x1024.size a)
theorem k0_off49_inb : ∀ (v1174 : BitVec 32) (k0_hw13 : k0_chk13 v1174), ∀ a, (k0_off49 v1174) a + S1x1024.size a ≤ S16384x1024.size a := fun v1174 k0_hw13 => k0_hw13

def k0_dev18 (d0 : Dev nD) : Nat :=
  let c0_i32_392 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_391 : BitVec 32 := 2#32
  let v405 : BitVec 32 := Scalar.muli v2 c2_i32_391
  let v406 : BitVec 32 := Scalar.addi c0_i32_392 v405
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_393 : BitVec 32 := 1#32
  let v407 : BitVec 32 := Scalar.muli v7 c1_i32_393
  let v408 : BitVec 32 := Scalar.addi v406 v407
  v408.toNat
@[reducible] def k0_t23_loop : Scf.Loop 32 :=
  let c0_i32_398 : BitVec 32 := 0#32
  let c64_i32_399 : BitVec 32 := 64#32
  let v415 : BitVec 32 := Scalar.addi c0_i32_398 c64_i32_399
  let c1_i32_400 : BitVec 32 := 1#32
  ⟨c0_i32_398, v415, c1_i32_400⟩
def k0_off50 (k0_t23 : Fin k0_t23_loop.trips) : Fin 2 → Nat :=
  let c576_i32_1201 : BitVec 32 := 576#32
  let c0_i32_398 : BitVec 32 := 0#32
  let c1_i32_400 : BitVec 32 := 1#32
  let arg14 : BitVec 32 := Scf.iv c0_i32_398 c1_i32_400 k0_t23
  let v1172 : BitVec 32 := Scalar.addi c576_i32_1201 arg14
  let c0_i32_1203 : BitVec 32 := 0#32
  ![v1172.toNat, 0]
def k0_dev19 (d0 : Dev nD) : Nat :=
  let c0_i32_407 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_406 : BitVec 32 := 2#32
  let v421 : BitVec 32 := Scalar.muli v6 c2_i32_406
  let v422 : BitVec 32 := Scalar.addi c0_i32_407 v421
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_408 : BitVec 32 := 1#32
  let v423 : BitVec 32 := Scalar.muli v5 c1_i32_408
  let v424 : BitVec 32 := Scalar.addi v422 v423
  v424.toNat
@[reducible] def k0_t24_loop : Scf.Loop 32 :=
  let c0_i32_412 : BitVec 32 := 0#32
  let c64_i32_413 : BitVec 32 := 64#32
  let v431 : BitVec 32 := Scalar.addi c0_i32_412 c64_i32_413
  let c1_i32_414 : BitVec 32 := 1#32
  ⟨c0_i32_412, v431, c1_i32_414⟩
def k0_off51 (k0_t24 : Fin k0_t24_loop.trips) : Fin 1 → Nat :=
  let c832_i32_1201 : BitVec 32 := 832#32
  let c0_i32_412 : BitVec 32 := 0#32
  let c1_i32_414 : BitVec 32 := 1#32
  let arg14 : BitVec 32 := Scf.iv c0_i32_412 c1_i32_414 k0_t24
  let v1172 : BitVec 32 := Scalar.addi c832_i32_1201 arg14
  let v1173 : Index := Scalar.indexCast v1172
  ![v1173.toNat]
def k0_off52 (k0_t24 : Fin k0_t24_loop.trips) : Fin 2 → Nat :=
  let c832_i32_1201 : BitVec 32 := 832#32
  let c0_i32_412 : BitVec 32 := 0#32
  let c1_i32_414 : BitVec 32 := 1#32
  let arg14 : BitVec 32 := Scf.iv c0_i32_412 c1_i32_414 k0_t24
  let v1172 : BitVec 32 := Scalar.addi c832_i32_1201 arg14
  let c0_i32_1204 : BitVec 32 := 0#32
  ![v1172.toNat, 0]
def k0_off53 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk14 (v1174 : BitVec 32) : Prop :=
  (∀ a, (k0_off53 v1174) a + S1x1024.size a ≤ S16384x1024.size a)
theorem k0_off53_inb : ∀ (v1174 : BitVec 32) (k0_hw14 : k0_chk14 v1174), ∀ a, (k0_off53 v1174) a + S1x1024.size a ≤ S16384x1024.size a := fun v1174 k0_hw14 => k0_hw14

def k0_dev20 (d0 : Dev nD) : Nat :=
  let c0_i32_439 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_438 : BitVec 32 := 2#32
  let v456 : BitVec 32 := Scalar.muli v2 c2_i32_438
  let v457 : BitVec 32 := Scalar.addi c0_i32_439 v456
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_440 : BitVec 32 := 1#32
  let v458 : BitVec 32 := Scalar.muli v7 c1_i32_440
  let v459 : BitVec 32 := Scalar.addi v457 v458
  v459.toNat
@[reducible] def k0_t25_loop : Scf.Loop 32 :=
  let c0_i32_445 : BitVec 32 := 0#32
  let c64_i32_446 : BitVec 32 := 64#32
  let v466 : BitVec 32 := Scalar.addi c0_i32_445 c64_i32_446
  let c1_i32_447 : BitVec 32 := 1#32
  ⟨c0_i32_445, v466, c1_i32_447⟩
def k0_off54 (k0_t25 : Fin k0_t25_loop.trips) : Fin 2 → Nat :=
  let c640_i32_1201 : BitVec 32 := 640#32
  let c0_i32_445 : BitVec 32 := 0#32
  let c1_i32_447 : BitVec 32 := 1#32
  let arg14 : BitVec 32 := Scf.iv c0_i32_445 c1_i32_447 k0_t25
  let v1172 : BitVec 32 := Scalar.addi c640_i32_1201 arg14
  let c0_i32_1203 : BitVec 32 := 0#32
  ![v1172.toNat, 0]
def k0_dev21 (d0 : Dev nD) : Nat :=
  let c0_i32_454 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_453 : BitVec 32 := 2#32
  let v472 : BitVec 32 := Scalar.muli v6 c2_i32_453
  let v473 : BitVec 32 := Scalar.addi c0_i32_454 v472
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_455 : BitVec 32 := 1#32
  let v474 : BitVec 32 := Scalar.muli v5 c1_i32_455
  let v475 : BitVec 32 := Scalar.addi v473 v474
  v475.toNat
@[reducible] def k0_t26_loop : Scf.Loop 32 :=
  let c0_i32_459 : BitVec 32 := 0#32
  let c64_i32_460 : BitVec 32 := 64#32
  let v482 : BitVec 32 := Scalar.addi c0_i32_459 c64_i32_460
  let c1_i32_461 : BitVec 32 := 1#32
  ⟨c0_i32_459, v482, c1_i32_461⟩
def k0_off55 (k0_t26 : Fin k0_t26_loop.trips) : Fin 1 → Nat :=
  let c896_i32_1201 : BitVec 32 := 896#32
  let c0_i32_459 : BitVec 32 := 0#32
  let c1_i32_461 : BitVec 32 := 1#32
  let arg14 : BitVec 32 := Scf.iv c0_i32_459 c1_i32_461 k0_t26
  let v1172 : BitVec 32 := Scalar.addi c896_i32_1201 arg14
  let v1173 : Index := Scalar.indexCast v1172
  ![v1173.toNat]
def k0_off56 (k0_t26 : Fin k0_t26_loop.trips) : Fin 2 → Nat :=
  let c896_i32_1201 : BitVec 32 := 896#32
  let c0_i32_459 : BitVec 32 := 0#32
  let c1_i32_461 : BitVec 32 := 1#32
  let arg14 : BitVec 32 := Scf.iv c0_i32_459 c1_i32_461 k0_t26
  let v1172 : BitVec 32 := Scalar.addi c896_i32_1201 arg14
  let c0_i32_1204 : BitVec 32 := 0#32
  ![v1172.toNat, 0]
def k0_off57 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk15 (v1174 : BitVec 32) : Prop :=
  (∀ a, (k0_off57 v1174) a + S1x1024.size a ≤ S16384x1024.size a)
theorem k0_off57_inb : ∀ (v1174 : BitVec 32) (k0_hw15 : k0_chk15 v1174), ∀ a, (k0_off57 v1174) a + S1x1024.size a ≤ S16384x1024.size a := fun v1174 k0_hw15 => k0_hw15

def k0_dev22 (d0 : Dev nD) : Nat :=
  let c0_i32_486 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_485 : BitVec 32 := 2#32
  let v507 : BitVec 32 := Scalar.muli v2 c2_i32_485
  let v508 : BitVec 32 := Scalar.addi c0_i32_486 v507
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_487 : BitVec 32 := 1#32
  let v509 : BitVec 32 := Scalar.muli v7 c1_i32_487
  let v510 : BitVec 32 := Scalar.addi v508 v509
  v510.toNat
@[reducible] def k0_t27_loop : Scf.Loop 32 :=
  let c0_i32_492 : BitVec 32 := 0#32
  let c64_i32_493 : BitVec 32 := 64#32
  let v517 : BitVec 32 := Scalar.addi c0_i32_492 c64_i32_493
  let c1_i32_494 : BitVec 32 := 1#32
  ⟨c0_i32_492, v517, c1_i32_494⟩
def k0_off58 (k0_t27 : Fin k0_t27_loop.trips) : Fin 2 → Nat :=
  let c704_i32_1201 : BitVec 32 := 704#32
  let c0_i32_492 : BitVec 32 := 0#32
  let c1_i32_494 : BitVec 32 := 1#32
  let arg14 : BitVec 32 := Scf.iv c0_i32_492 c1_i32_494 k0_t27
  let v1172 : BitVec 32 := Scalar.addi c704_i32_1201 arg14
  let c0_i32_1203 : BitVec 32 := 0#32
  ![v1172.toNat, 0]
def k0_dev23 (d0 : Dev nD) : Nat :=
  let c0_i32_501 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_500 : BitVec 32 := 2#32
  let v523 : BitVec 32 := Scalar.muli v6 c2_i32_500
  let v524 : BitVec 32 := Scalar.addi c0_i32_501 v523
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_502 : BitVec 32 := 1#32
  let v525 : BitVec 32 := Scalar.muli v5 c1_i32_502
  let v526 : BitVec 32 := Scalar.addi v524 v525
  v526.toNat
@[reducible] def k0_t28_loop : Scf.Loop 32 :=
  let c0_i32_506 : BitVec 32 := 0#32
  let c64_i32_507 : BitVec 32 := 64#32
  let v533 : BitVec 32 := Scalar.addi c0_i32_506 c64_i32_507
  let c1_i32_508 : BitVec 32 := 1#32
  ⟨c0_i32_506, v533, c1_i32_508⟩
def k0_off59 (k0_t28 : Fin k0_t28_loop.trips) : Fin 1 → Nat :=
  let c960_i32_1201 : BitVec 32 := 960#32
  let c0_i32_506 : BitVec 32 := 0#32
  let c1_i32_508 : BitVec 32 := 1#32
  let arg14 : BitVec 32 := Scf.iv c0_i32_506 c1_i32_508 k0_t28
  let v1172 : BitVec 32 := Scalar.addi c960_i32_1201 arg14
  let v1173 : Index := Scalar.indexCast v1172
  ![v1173.toNat]
def k0_off60 (k0_t28 : Fin k0_t28_loop.trips) : Fin 2 → Nat :=
  let c960_i32_1201 : BitVec 32 := 960#32
  let c0_i32_506 : BitVec 32 := 0#32
  let c1_i32_508 : BitVec 32 := 1#32
  let arg14 : BitVec 32 := Scf.iv c0_i32_506 c1_i32_508 k0_t28
  let v1172 : BitVec 32 := Scalar.addi c960_i32_1201 arg14
  let c0_i32_1204 : BitVec 32 := 0#32
  ![v1172.toNat, 0]
def k0_off61 (v1174 : BitVec 32) : Fin 2 → Nat :=
  let c16383_i32 : BitVec 32 := 16383#32
  let v1175 : BitVec 32 := Scalar.minsi v1174 c16383_i32
  let c0_i32_1202 : BitVec 32 := 0#32
  let v1176 : BitVec 32 := Scalar.maxsi v1175 c0_i32_1202
  let c0_i32_1205 : BitVec 32 := 0#32
  ![v1176.toNat, 0]

def k0_chk16 (v1174 : BitVec 32) : Prop :=
  (∀ a, (k0_off61 v1174) a + S1x1024.size a ≤ S16384x1024.size a)
theorem k0_off61_inb : ∀ (v1174 : BitVec 32) (k0_hw16 : k0_chk16 v1174), ∀ a, (k0_off61 v1174) a + S1x1024.size a ≤ S16384x1024.size a := fun v1174 k0_hw16 => k0_hw16

def k0_dev24 (d0 : Dev nD) : Nat :=
  let c0_i32_533 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_532 : BitVec 32 := 2#32
  let v558 : BitVec 32 := Scalar.muli v2 c2_i32_532
  let v559 : BitVec 32 := Scalar.addi c0_i32_533 v558
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_534 : BitVec 32 := 1#32
  let v560 : BitVec 32 := Scalar.muli v7 c1_i32_534
  let v561 : BitVec 32 := Scalar.addi v559 v560
  v561.toNat
@[reducible] def k0_t29_loop : Scf.Loop 32 :=
  let c0_i32_539 : BitVec 32 := 0#32
  let c64_i32_540 : BitVec 32 := 64#32
  let v568 : BitVec 32 := Scalar.addi c0_i32_539 c64_i32_540
  let c1_i32_541 : BitVec 32 := 1#32
  ⟨c0_i32_539, v568, c1_i32_541⟩
def k0_off62 (k0_t29 : Fin k0_t29_loop.trips) : Fin 2 → Nat :=
  let c768_i32_1201 : BitVec 32 := 768#32
  let c0_i32_539 : BitVec 32 := 0#32
  let c1_i32_541 : BitVec 32 := 1#32
  let arg14 : BitVec 32 := Scf.iv c0_i32_539 c1_i32_541 k0_t29
  let v1172 : BitVec 32 := Scalar.addi c768_i32_1201 arg14
  let c0_i32_1203 : BitVec 32 := 0#32
  ![v1172.toNat, 0]
def k0_dev25 (d0 : Dev nD) : Nat :=
  let c0_i32_548 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_547 : BitVec 32 := 2#32
  let v574 : BitVec 32 := Scalar.muli v6 c2_i32_547
  let v575 : BitVec 32 := Scalar.addi c0_i32_548 v574
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_549 : BitVec 32 := 1#32
  let v576 : BitVec 32 := Scalar.muli v5 c1_i32_549
  let v577 : BitVec 32 := Scalar.addi v575 v576
  v577.toNat
def k0_dev26 (d0 : Dev nD) : Nat :=
  let c0_i32_576 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_575 : BitVec 32 := 2#32
  let v608 : BitVec 32 := Scalar.muli v2 c2_i32_575
  let v609 : BitVec 32 := Scalar.addi c0_i32_576 v608
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_577 : BitVec 32 := 1#32
  let v610 : BitVec 32 := Scalar.muli v7 c1_i32_577
  let v611 : BitVec 32 := Scalar.addi v609 v610
  v611.toNat
@[reducible] def k0_t30_loop : Scf.Loop 32 :=
  let c0_i32_582 : BitVec 32 := 0#32
  let c64_i32_583 : BitVec 32 := 64#32
  let v618 : BitVec 32 := Scalar.addi c0_i32_582 c64_i32_583
  let c1_i32_584 : BitVec 32 := 1#32
  ⟨c0_i32_582, v618, c1_i32_584⟩
def k0_off63 (k0_t30 : Fin k0_t30_loop.trips) : Fin 2 → Nat :=
  let c832_i32_1201 : BitVec 32 := 832#32
  let c0_i32_582 : BitVec 32 := 0#32
  let c1_i32_584 : BitVec 32 := 1#32
  let arg14 : BitVec 32 := Scf.iv c0_i32_582 c1_i32_584 k0_t30
  let v1172 : BitVec 32 := Scalar.addi c832_i32_1201 arg14
  let c0_i32_1203 : BitVec 32 := 0#32
  ![v1172.toNat, 0]
def k0_dev27 (d0 : Dev nD) : Nat :=
  let c0_i32_591 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_590 : BitVec 32 := 2#32
  let v624 : BitVec 32 := Scalar.muli v6 c2_i32_590
  let v625 : BitVec 32 := Scalar.addi c0_i32_591 v624
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_592 : BitVec 32 := 1#32
  let v626 : BitVec 32 := Scalar.muli v5 c1_i32_592
  let v627 : BitVec 32 := Scalar.addi v625 v626
  v627.toNat
def k0_dev28 (d0 : Dev nD) : Nat :=
  let c0_i32_619 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_618 : BitVec 32 := 2#32
  let v658 : BitVec 32 := Scalar.muli v2 c2_i32_618
  let v659 : BitVec 32 := Scalar.addi c0_i32_619 v658
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_620 : BitVec 32 := 1#32
  let v660 : BitVec 32 := Scalar.muli v7 c1_i32_620
  let v661 : BitVec 32 := Scalar.addi v659 v660
  v661.toNat
@[reducible] def k0_t31_loop : Scf.Loop 32 :=
  let c0_i32_625 : BitVec 32 := 0#32
  let c64_i32_626 : BitVec 32 := 64#32
  let v668 : BitVec 32 := Scalar.addi c0_i32_625 c64_i32_626
  let c1_i32_627 : BitVec 32 := 1#32
  ⟨c0_i32_625, v668, c1_i32_627⟩
def k0_off64 (k0_t31 : Fin k0_t31_loop.trips) : Fin 2 → Nat :=
  let c896_i32_1201 : BitVec 32 := 896#32
  let c0_i32_625 : BitVec 32 := 0#32
  let c1_i32_627 : BitVec 32 := 1#32
  let arg14 : BitVec 32 := Scf.iv c0_i32_625 c1_i32_627 k0_t31
  let v1172 : BitVec 32 := Scalar.addi c896_i32_1201 arg14
  let c0_i32_1203 : BitVec 32 := 0#32
  ![v1172.toNat, 0]
def k0_dev29 (d0 : Dev nD) : Nat :=
  let c0_i32_634 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_633 : BitVec 32 := 2#32
  let v674 : BitVec 32 := Scalar.muli v6 c2_i32_633
  let v675 : BitVec 32 := Scalar.addi c0_i32_634 v674
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_635 : BitVec 32 := 1#32
  let v676 : BitVec 32 := Scalar.muli v5 c1_i32_635
  let v677 : BitVec 32 := Scalar.addi v675 v676
  v677.toNat
def k0_dev30 (d0 : Dev nD) : Nat :=
  let c0_i32_662 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_661 : BitVec 32 := 2#32
  let v708 : BitVec 32 := Scalar.muli v2 c2_i32_661
  let v709 : BitVec 32 := Scalar.addi c0_i32_662 v708
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_663 : BitVec 32 := 1#32
  let v710 : BitVec 32 := Scalar.muli v7 c1_i32_663
  let v711 : BitVec 32 := Scalar.addi v709 v710
  v711.toNat
@[reducible] def k0_t32_loop : Scf.Loop 32 :=
  let c0_i32_668 : BitVec 32 := 0#32
  let c64_i32_669 : BitVec 32 := 64#32
  let v718 : BitVec 32 := Scalar.addi c0_i32_668 c64_i32_669
  let c1_i32_670 : BitVec 32 := 1#32
  ⟨c0_i32_668, v718, c1_i32_670⟩
def k0_off65 (k0_t32 : Fin k0_t32_loop.trips) : Fin 2 → Nat :=
  let c960_i32_1201 : BitVec 32 := 960#32
  let c0_i32_668 : BitVec 32 := 0#32
  let c1_i32_670 : BitVec 32 := 1#32
  let arg14 : BitVec 32 := Scf.iv c0_i32_668 c1_i32_670 k0_t32
  let v1172 : BitVec 32 := Scalar.addi c960_i32_1201 arg14
  let c0_i32_1203 : BitVec 32 := 0#32
  ![v1172.toNat, 0]
def k0_dev31 (d0 : Dev nD) : Nat :=
  let c0_i32_677 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_676 : BitVec 32 := 2#32
  let v724 : BitVec 32 := Scalar.muli v6 c2_i32_676
  let v725 : BitVec 32 := Scalar.addi c0_i32_677 v724
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_678 : BitVec 32 := 1#32
  let v726 : BitVec 32 := Scalar.muli v5 c1_i32_678
  let v727 : BitVec 32 := Scalar.addi v725 v726
  v727.toNat
def k0_dev32 (d0 : Dev nD) : Nat :=
  let c0_i32_705 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_704 : BitVec 32 := 2#32
  let v758 : BitVec 32 := Scalar.muli v2 c2_i32_704
  let v759 : BitVec 32 := Scalar.addi c0_i32_705 v758
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_706 : BitVec 32 := 1#32
  let v760 : BitVec 32 := Scalar.muli v7 c1_i32_706
  let v761 : BitVec 32 := Scalar.addi v759 v760
  v761.toNat
def k0_dev33 (d0 : Dev nD) : Nat :=
  let c0_i32_734 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_733 : BitVec 32 := 2#32
  let v792 : BitVec 32 := Scalar.muli v2 c2_i32_733
  let v793 : BitVec 32 := Scalar.addi c0_i32_734 v792
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_735 : BitVec 32 := 1#32
  let v794 : BitVec 32 := Scalar.muli v7 c1_i32_735
  let v795 : BitVec 32 := Scalar.addi v793 v794
  v795.toNat
def k0_dev34 (d0 : Dev nD) : Nat :=
  let c0_i32_763 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_762 : BitVec 32 := 2#32
  let v826 : BitVec 32 := Scalar.muli v2 c2_i32_762
  let v827 : BitVec 32 := Scalar.addi c0_i32_763 v826
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_764 : BitVec 32 := 1#32
  let v828 : BitVec 32 := Scalar.muli v7 c1_i32_764
  let v829 : BitVec 32 := Scalar.addi v827 v828
  v829.toNat
def k0_off66 (d0 : Dev nD) (c0_i32_780 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c1024_i32_5 : BitVec 32 := 1024#32
  let v10 : BitVec 32 := Scalar.muli v9 c1024_i32_5
  let v846 : BitVec 32 := Scalar.addi v10 c0_i32_780
  let v847 : Index := Scalar.indexCast v846
  let c0_781 : Index := 0#32
  ![v847.toNat, 0]
abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048 : Shape := ⟨1, ![2048]⟩
abbrev S32768x1024 : Shape := ⟨2, ![32768, 1024]⟩
abbrev S_ : Shape := ⟨0, ![]⟩
abbrev S2048x1 : Shape := ⟨2, ![2048, 1]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048, .i32⟩
  | .hbm, ⟨1, _⟩ => ⟨S32768x1024, .f32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Pieces.lean ====
module

public import proofs.«01_k».proof.Proof.Gen.KernelIdeal.Skeleton

@[expose] public section

noncomputable section

namespace Cert.KernelIdeal.Run

open Idealize.ShloMosaic Idealize.SL.Sem Cert.KernelIdeal.Gen

variable {F : FTy → Type} [FloatOps F]

/-! # The kernel's body as a few pieces, each written once for every chunk

A device works on its 1024 rows in sixteen chunks of 64. Everything the body does to chunk `k` is
one of the pieces below, at `k`. -/

/-- The row chunk `k` begins at lies within the 1024-row buffers. -/
theorem inbChunk (k : Fin 16) : ∀ a, (![64 * k.val, 0] : Fin 2 → Nat) a + S64x1024.size a ≤ S1024x1024.size a := by
  revert k; decide

/-- The same of the one-column buffer of the mask. -/
theorem inbMask (k : Fin 16) : ∀ a, (![64 * k.val, 0] : Fin 2 → Nat) a + S64x1.size a ≤ S1024x1.size a := by
  revert k; decide

/-- Chunk `k`'s semaphore is one of the sixteen. -/
theorem inbSem (k : Fin 16) : ∀ a, (![k.val] : Fin 1 → Nat) a + S1.size a ≤ S16.size a := by
  revert k; decide

/-- Chunk `k` of a 1024-row buffer. -/
abbrev chunkR (k : Fin 16) : Rect S1024x1024 :=
  Rect.unit (s := S1024x1024) ![64 * k.val, 0] S64x1024.size (inbChunk k)

/-- Chunk `k` of the mask. -/
abbrev maskR (k : Fin 16) : Rect S1024x1 :=
  Rect.unit (s := S1024x1) ![64 * k.val, 0] S64x1.size (inbMask k)

/-- A chunk of a half-width buffer holds whole words, -/
theorem chunkR_words (k : Fin 16) : (chunkR k).WholeWords (EltTy.packing .bf16) := by
  revert k; decide

/-- and is stored exactly. -/
theorem chunkR_packed (k : Fin 16) : (chunkR k).PackedRows (EltTy.packing .bf16) := by
  revert k; decide

/-- The device across the table's cut: the same second coordinate, the other first one. -/
def xn (d : Dev nD) : Dev nD := ⟨k0_dev1 d, k0_dev1_lt d⟩

/-- The device across the ids' cut: the same first coordinate, the other second one. -/
def yn (d : Dev nD) : Dev nD := ⟨k0_dev2 d, k0_dev2_lt d⟩

/-- Semaphore `k` of sixteen. -/
def semK (A : DmaSems sig S16) (k : Fin 16) : DmaSem sig :=
  ((A.slice (Rect.unit (s := S16) ![k.val] S1.size (inbSem k))).squeeze S_ squeezes_S1_S_).sem

/-- The five families of sixteen: of the gathers, then of the two exchanges, a sending and a receiving one each. -/
def fam : Fin 5 → DmaSems sig S16
  | 0 => cc0_scratch5
  | 1 => cc0_scratch6
  | 2 => cc0_scratch7
  | 3 => cc0_scratch8
  | 4 => cc0_scratch9

/-- Semaphore `k` of family `j`, -/
def dsem (j : Fin 5) (k : Fin 16) : DmaSem sig := semK (fam j) k
/-- by its number. -/
theorem dsem_val : ∀ (j : Fin 5) (k : Fin 16), (dsem j k).val = 3 + 16 * j.val + k.val := by decide +kernel

/-- What the body is given: its four arrays (the wanted local rows, the mask, the table, the result) and its
five buffers (gathered rows, their half-width form, what the device across the table's cut sent, the merged rows,
what the device across the ids' cut sent). -/
structure Bufs where
  ids : Memref sig .tc .smem S1024 .i32
  hids : ids.IsWhole
  msk : Memref sig .tc .vmem S1024x1 .f32
  hmsk : msk.IsWhole
  tab : Memref sig .tc .hbm S16384x1024 .f32
  htab : tab.IsWhole
  out : Memref sig .tc .vmem S2048x1024 .f32
  hout : out.IsWhole
  part : Memref sig .tc .vmem S1024x1024 .f32
  hpart : part.IsWhole
  bf : Memref sig .tc .vmem S1024x1024 .bf16
  hbf : bf.IsWhole
  xr : Memref sig .tc .vmem S1024x1024 .bf16
  hxr : xr.IsWhole
  yb : Memref sig .tc .vmem S1024x1024 .bf16
  hyb : yb.IsWhole
  yr : Memref sig .tc .vmem S1024x1024 .bf16
  hyr : yr.IsWhole

/-- A loop of 64 trips. -/
abbrev loop64 : Scf.Loop 32 := k0_t1_loop

/-- The row trip `t` of chunk `k` is about, as the kernel computes it. -/
def rowW (k : Fin 16) (t : Fin loop64.trips) : BitVec 32 :=
  Scalar.addi (BitVec.ofNat 32 (64 * k.val)) (Scf.iv 0#32 1#32 t)

/-- Where that row's word lies, -/
def idOff (k : Fin 16) (t : Fin loop64.trips) : Fin 1 → Nat := ![(Scalar.indexCast (rowW k t)).toNat]
/-- and where the row itself. -/
def rowOff (k : Fin 16) (t : Fin loop64.trips) : Fin 2 → Nat := ![(rowW k t).toNat, 0]

/-- Row `64 k + t`. -/
theorem rowW_toNat : ∀ (k : Fin 16) (t : Fin loop64.trips), (rowW k t).toNat = 64 * k.val + t.val := by decide +kernel
theorem idOff_eq (k : Fin 16) (t : Fin loop64.trips) : idOff k t = ![64 * k.val + t.val] := by
  rw [← rowW_toNat k t]; rfl
theorem rowOff_eq (k : Fin 16) (t : Fin loop64.trips) : rowOff k t = ![64 * k.val + t.val, 0] := by
  rw [← rowW_toNat k t]; rfl
theorem loop64_trips : loop64.trips = 64 := by decide +kernel
theorem idOff_inb : ∀ (k : Fin 16) (t : Fin loop64.trips), ∀ a, (idOff k t) a + S1.size a ≤ S1024.size a := by
  decide +kernel
theorem rowOff_inb : ∀ (k : Fin 16) (t : Fin loop64.trips), ∀ a, (rowOff k t) a + S1x1024.size a ≤ S1024x1024.size a := by
  decide +kernel

variable (B : Bufs)

/-- One trip of a chunk's gather: read the wanted row's number and start copying that row of the table. -/
def issueTrip (k : Fin 16) (t : Fin loop64.trips) (_ : Unit) : Prog (TpuEff nD τ sig (Elt F) Λ₀ .tc) Unit := do
  let w : Elt F .i32 ← smemLoad B.ids (Rect.unit (s := S1024) (idOff k t) S1.size (idOff_inb k t)) numel1_S1 rfl
  have hw : k0_chk1 w := (← Prog.lift (TpuEff.assume (k0_chk1 w) (k0_chk1.dec w))).down
  Prog.lift (.enqueueDma (B.tab.slice (Rect.unit (s := S16384x1024) (k0_off3 w) S1x1024.size (k0_off3_inb w hw)) (fun _ => rfl))
    (.here (B.part.slice (Rect.unit (s := S1024x1024) (rowOff k t) S1x1024.size (rowOff_inb k t)) (fun _ => rfl)))
    (.dma (dsem 0 k)) (View.wordExact_bits rfl) (View.wordExact_bits rfl) ⟨Or.inl rfl, trivial⟩)
  pure ⟨⟩

/-- Start the 64 row copies of chunk `k`. -/
def issue (k : Fin 16) : Prog (TpuEff nD τ sig (Elt F) Λ₀ .tc) Unit :=
  Scf.Loop.for loop64 k0_t1_ok ⟨⟩ (issueTrip B k)

/-- One trip of a chunk's wait: one row's worth. -/
def waitTrip (k : Fin 16) (t : Fin loop64.trips) (_ : Unit) : Prog (TpuEff nD τ sig (Elt F) Λ₀ .tc) Unit := do
  Prog.lift (.waitDma2 (dsem 0 k) (B.tab.slice (Rect.unit (s := S16384x1024) ![0, 0] S1x1024.size inb_S16384x1024_S1x1024_0_0) (fun _ => rfl))
    (B.part.slice (Rect.unit (s := S1024x1024) (rowOff k t) S1x1024.size (rowOff_inb k t)) (fun _ => rfl))
    (View.wordExact_bits rfl) (View.wordExact_bits rfl))
  pure ⟨⟩

/-- Wait for the 64 row copies of chunk `k`. -/
def wait64 (k : Fin 16) : Prog (TpuEff nD τ sig (Elt F) Λ₀ .tc) Unit :=
  Scf.Loop.for loop64 k0_t1_ok ⟨⟩ (waitTrip B k)

/-- Round chunk `k`'s rows to half width and send them to the device across the table's cut. -/
def sendX (d : Dev nD) (k : Fin 16) : Prog (TpuEff nD τ sig (Elt F) Λ₀ .tc) Unit := do
  let v : Vec F S64x1024 .f32 ← Prog.lift (.load B.part (chunkR k).toLoadRect (View.loadsAt_vmem h_S64x1024))
  let _ : Vec F S64x1024 .bf16 ← Prog.lift (.load B.bf (chunkR k).toLoadRect (View.loadsAt_vmem h_S64x1024))
  Prog.lift (.store B.bf (chunkR k) (k0_pay1 v) Finset.univ
    (View.stores_vmem h_S64x1024 (B.hbf.storeExact_slice rfl _ (chunkR_packed k)) (fun _ => rfl)) (.inl rfl))
  Prog.lift (.enqueueDma (B.bf.slice (chunkR k) (fun _ => rfl))
    (.remote (Dev.tc (xn d)) (B.xr.slice (chunkR k) (fun _ => rfl)) (.dma (dsem 1 k))) (.dma (dsem 2 k))
    (B.hbf.wordExact_slice rfl _ (chunkR_words k)) (B.hxr.wordExact_slice rfl _ (chunkR_words k)) ⟨⟨rfl, Or.inl rfl⟩, trivial⟩)
  pure ⟨⟩

/-- Take in what the device across the table's cut sent of chunk `k`, merge it with this device's own rows, put the
merged rows in the result and send them to the device across the ids' cut. -/
def merge (d : Dev nD) (k : Fin 16) : Prog (TpuEff nD τ sig (Elt F) Λ₀ .tc) Unit := do
  Prog.lift (.waitDma2 (dsem 2 k) (B.bf.slice (chunkR k) (fun _ => rfl)) (B.xr.slice (chunkR k) (fun _ => rfl))
    (B.hbf.wordExact_slice rfl _ (chunkR_words k)) (B.hxr.wordExact_slice rfl _ (chunkR_words k)))
  let a : Vec F S64x1 .f32 ← Prog.lift (.load B.msk (maskR k).toLoadRect (View.loadsAt_vmem h_S64x1))
  let b : Vec F S64x1024 .bf16 ← Prog.lift (.load B.bf (chunkR k).toLoadRect (View.loadsAt_vmem h_S64x1024))
  let x : Vec F S64x1024 .bf16 ← Prog.lift (.load B.xr (chunkR k).toLoadRect (View.loadsAt_vmem h_S64x1024))
  let _ : Vec F S64x1024 .bf16 ← Prog.lift (.load B.yb (chunkR k).toLoadRect (View.loadsAt_vmem h_S64x1024))
  Prog.lift (.store B.yb (chunkR k) (k0_pay6 a b x) Finset.univ
    (View.stores_vmem h_S64x1024 (B.hyb.storeExact_slice rfl _ (chunkR_packed k)) (fun _ => rfl)) (.inl rfl))
  let _ : Vec F S64x1024 .f32 ← Prog.lift (.load B.out (Rect.unit (s := S2048x1024) (k0_off25 d (BitVec.ofNat 32 (64 * k.val))) S64x1024.size (k0_off25_inb d k)).toLoadRect (View.loadsAt_vmem h_S64x1024))
  Prog.lift (.store B.out (Rect.unit (s := S2048x1024) (k0_off25 d (BitVec.ofNat 32 (64 * k.val))) S64x1024.size (k0_off25_inb d k)) (k0_pay7 a b x) Finset.univ
    (View.stores_vmem_bits_univ h_S64x1024 rfl) (.inl rfl))
  Prog.lift (.enqueueDma (B.yb.slice (chunkR k) (fun _ => rfl))
    (.remote (Dev.tc (yn d)) (B.yr.slice (chunkR k) (fun _ => rfl)) (.dma (dsem 3 k))) (.dma (dsem 4 k))
    (B.hyb.wordExact_slice rfl _ (chunkR_words k)) (B.hyr.wordExact_slice rfl _ (chunkR_words k)) ⟨⟨rfl, Or.inl rfl⟩, trivial⟩)
  pure ⟨⟩

/-- Take in what the device across the ids' cut sent of chunk `k` and put it in the result's other half. -/
def collect (d : Dev nD) (k : Fin 16) (_ : Unit) : Prog (TpuEff nD τ sig (Elt F) Λ₀ .tc) Unit := do
  Prog.lift (.waitDma2 (dsem 4 k) (B.yb.slice (chunkR k) (fun _ => rfl)) (B.yr.slice (chunkR k) (fun _ => rfl))
    (B.hyb.wordExact_slice rfl _ (chunkR_words k)) (B.hyr.wordExact_slice rfl _ (chunkR_words k)))
  let v : Vec F S64x1024 .bf16 ← Prog.lift (.load B.yr (chunkR k).toLoadRect (View.loadsAt_vmem h_S64x1024))
  let _ : Vec F S64x1024 .f32 ← Prog.lift (.load B.out (Rect.unit (s := S2048x1024) (k0_off66 d (BitVec.ofNat 32 (64 * k.val))) S64x1024.size (k0_off66_inb d k)).toLoadRect (View.loadsAt_vmem h_S64x1024))
  Prog.lift (.store B.out (Rect.unit (s := S2048x1024) (k0_off66 d (BitVec.ofNat 32 (64 * k.val))) S64x1024.size (k0_off66_inb d k)) (k0_pay75 v) Finset.univ
    (View.stores_vmem_bits_univ h_S64x1024 rfl) (.inl rfl))
  pure ⟨⟩

/-- Wait until this device's own two sends of chunk `k` have been read. -/
def sent (k : Fin 16) (_ : Unit) : Prog (TpuEff nD τ sig (Elt F) Λ₀ .tc) Unit := do
  Prog.lift (.waitDma2 (dsem 1 k) (B.xr.slice (chunkR k) (fun _ => rfl)) (B.bf.slice (chunkR k) (fun _ => rfl))
    (B.hxr.wordExact_slice rfl _ (chunkR_words k)) (B.hbf.wordExact_slice rfl _ (chunkR_words k)))
  Prog.lift (.waitDma2 (dsem 3 k) (B.yr.slice (chunkR k) (fun _ => rfl)) (B.yb.slice (chunkR k) (fun _ => rfl))
    (B.hyr.wordExact_slice rfl _ (chunkR_words k)) (B.hyb.wordExact_slice rfl _ (chunkR_words k)))
  pure ⟨⟩

/-- One turn of the pipeline, then `rest`: start the gather of the chunk three on, merge the chunk three back, then
wait for and send this one. -/
def turn (d : Dev nD) (k : Fin 16) (rest : Prog (TpuEff nD τ sig (Elt F) Λ₀ .tc) Unit) :
    Prog (TpuEff nD τ sig (Elt F) Λ₀ .tc) Unit :=
  let this : Prog (TpuEff nD τ sig (Elt F) Λ₀ .tc) Unit := wait64 B k >>= fun _ => sendX B d k >>= fun _ => rest
  let back : Prog (TpuEff nD τ sig (Elt F) Λ₀ .tc) Unit :=
    if h : 3 ≤ k.val then merge B d ⟨k.val - 3, by omega⟩ >>= fun _ => this else this
  if h : k.val + 3 < 16 then issue B ⟨k.val + 3, h⟩ >>= fun _ => back else back

/-- What follows the turns. -/
def tail (d : Dev nD) : Prog (TpuEff nD τ sig (Elt F) Λ₀ .tc) Unit := do
  merge B d 13
  merge B d 14
  merge B d 15
  Scf.forFrom (collect B d) (List.finRange 16) ⟨⟩
  Scf.forFrom (sent B) (List.finRange 16) ⟨⟩

/-- The body from its pieces. -/
def body : Prog (TpuEff nD τ sig (Elt F) Λ₀ .tc) PUnit := do
  let d : Dev nD ← Prog.lift .deviceId
  issue B 0
  issue B 1
  issue B 2
  semSignalWord (xn d) (SemArray.scalar (sig.barrier 0 rfl) : Sems sig S_).sem 1#32
  semSignalWord (yn d) (SemArray.scalar (sig.barrier 0 rfl) : Sems sig S_).sem 1#32
  semWaitWord (SemArray.scalar (sig.barrier 0 rfl) : Sems sig S_).sem 2#32
  (List.finRange 16).foldr (turn B d) (tail B d)

end Cert.KernelIdeal.Run

end
-- ==== Proof.Owns.lean ====
module

public import proofs.«01_k».proof.Proof.Pieces
public import Idealize.ShloMosaic.Lib.Memref
public import Idealize.ShloMosaic.Lib.Rounds
public import Idealize.ShloMosaic.Lib.Batch
public import Idealize.ShloMosaic.Lib.Transfers
public import Idealize.ShloMosaic.Lib.Tactic

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! # Loads, stores and shares, by the values a piece of a buffer holds -/

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

section Shares

variable (c : Thread nD τ) {sp : Space} {sh : Shape} {e : EltTy} (m : Memref sig c.2.kind sp sh e)

/-- Owning a piece at what contents `g` read there is holding those elements at `g`. -/
theorem owns_at (q : PosShare TreeShare) (g : m.view.ty.Contents Val) :
    (owns c m q (m.view.read Val g) : sProp 𝕄) = (m.view.loc c ↦[m.view.set]{q} g) := by
  unfold owns
  refine BI.equiv_iff.mp ⟨?_, ?_⟩
  · show iprop(∃ f, ⌜m.view.read Val f = m.view.read Val g⌝ ∗ (m.view.loc c ↦[m.view.set]{q} f)) ⊢ _
    iintro ⟨%f, %hf, H⟩
    have e : (m.view.loc c ↦[m.view.set]{q} f : sProp 𝕄) = (m.view.loc c ↦[m.view.set]{q} g) :=
      pointsTo_congr fun i hi => by
        obtain ⟨j, -, rfl⟩ := Finset.mem_map.mp hi
        have := congrFun hf j
        simp only [View.read] at this
        exact (cast_inj _).mp this
    rw [← e]; iexact H
  · show _ ⊢ iprop(∃ f, ⌜m.view.read Val f = m.view.read Val g⌝ ∗ (m.view.loc c ↦[m.view.set]{q} f))
    iintro H; iexists g
    isplitr; · ipureintro; rfl
    iexact H

/-- A piece dealt into `n` equal-valued shares and what is left of the share, -/
theorem owns_deal (q : PosShare TreeShare) (n : ℕ) (X : sh.Idx → Val e) :
    (owns c m q X : sProp 𝕄)
      ⊢ iprop(owns c m (Transfers.shareDrop q n) X ∗ bigSep Finset.univ fun i : Fin n => owns c m (Transfers.shareTok q n i) X) := by
  have h : (owns c m q X : sProp 𝕄) ⊢ iprop(∃ f, ⌜m.view.read Val f = X⌝ ∗ (m.view.loc c ↦[m.view.set]{q} f)) := by
    unfold owns; exact .rfl
  refine h.trans ?_
  iintro ⟨%f, %hf, H⟩
  subst hf
  rw [owns_at, bigSep_congr (fun i _ => owns_at c m (Transfers.shareTok q n i) f)]
  iapply (Transfers.pointsTo_toks_split q n) $$ H

/-- and put back together. -/
theorem owns_undeal (q : PosShare TreeShare) (n : ℕ) (X : sh.Idx → Val e) :
    iprop(owns c m (Transfers.shareDrop q n) X ∗ bigSep Finset.univ fun i : Fin n => owns c m (Transfers.shareTok q n i) X)
      ⊢ (owns c m q X : sProp 𝕄) := by
  have h : (owns c m (Transfers.shareDrop q n) X : sProp 𝕄)
      ⊢ iprop(∃ f, ⌜m.view.read Val f = X⌝ ∗ (m.view.loc c ↦[m.view.set]{Transfers.shareDrop q n} f)) := by
    unfold owns; exact .rfl
  iintro ⟨H, Hs⟩
  icases h $$ H with ⟨%f, %hf, H⟩
  subst hf
  have hj : iprop((m.view.loc c ↦[m.view.set]{Transfers.shareDrop q n} f)
        ∗ bigSep Finset.univ fun i : Fin n => owns c m (Transfers.shareTok q n i) (m.view.read Val f))
      ⊢ (owns c m q (m.view.read Val f) : sProp 𝕄) := by
    rw [owns_at, bigSep_congr (fun i _ => owns_at c m (Transfers.shareTok q n i) f)]
    exact Transfers.pointsTo_toks_join q n
  iapply hj
  isplitl [H] <;> iassumption

/-- A piece in two halves, -/
theorem owns_halves (q : PosShare TreeShare) (X : sh.Idx → Val e) :
    (owns c m q X : sProp 𝕄) ⊢ iprop(owns c m q.left X ∗ owns c m q.right X) := by
  have h : (owns c m q X : sProp 𝕄) ⊢ iprop(∃ f, ⌜m.view.read Val f = X⌝ ∗ (m.view.loc c ↦[m.view.set]{q} f)) := by
    unfold owns; exact .rfl
  refine h.trans ?_
  iintro ⟨%f, %hf, H⟩
  subst hf
  rw [owns_at, owns_at]
  iapply (pointsTo_share (PosShare.mem_left_op_right q)).1 $$ H

/-- and whole again. -/
theorem owns_whole_of_halves (q : PosShare TreeShare) (X : sh.Idx → Val e) :
    iprop(owns c m q.left X ∗ owns c m q.right X) ⊢ (owns c m q X : sProp 𝕄) := by
  have h : (owns c m q.left X : sProp 𝕄) ⊢ iprop(∃ f, ⌜m.view.read Val f = X⌝ ∗ (m.view.loc c ↦[m.view.set]{q.left} f)) := by
    unfold owns; exact .rfl
  iintro ⟨H, H'⟩
  icases h $$ H with ⟨%f, %hf, H⟩
  subst hf
  have hj : iprop((m.view.loc c ↦[m.view.set]{q.left} f) ∗ owns c m q.right (m.view.read Val f))
      ⊢ (owns c m q (m.view.read Val f) : sProp 𝕄) := by
    rw [owns_at, owns_at]
    exact (pointsTo_share (PosShare.mem_left_op_right q)).2
  iapply hj
  isplitl [H] <;> iassumption

end Shares

section Parts

variable (c : Thread nD τ) {sp : Space} {sh : Shape} {e : EltTy} (m : Memref sig c.2.kind sp sh e) (q : PosShare TreeShare)
variable {T : Type} [Fintype T] [DecidableEq T] (r : T → Rect sh) (hr : ∀ t a, (r t).stride a = 1)
  (hd : ∀ t t', t ≠ t' → Disjoint (r t).set (r t').set)
  (r' : Rect sh) (hr' : ∀ a, r'.stride a = 1) (hcov : (Finset.univ : Finset T).biUnion (fun t => (r t).set) = r'.set)
include hd hcov

omit [DecidableEq T] hd in
/-- The elements of a piece are those of the smaller pieces that make it up. -/
theorem slice_set_biUnion : (m.slice r' hr').view.set = (Finset.univ : Finset T).biUnion fun t => (m.view.slice (r t)).set := by
  show (m.view.slice r').set = _
  ext i
  rw [View.set_slice, ← hcov, Finset.map_eq_image, Finset.mem_image, Finset.mem_biUnion]
  simp only [Finset.mem_biUnion, View.set_slice, Finset.mem_map]
  constructor
  · rintro ⟨x, ⟨t, ht, hx⟩, rfl⟩; exact ⟨t, ht, x, hx, rfl⟩
  · rintro ⟨t, ht, x, hx, rfl⟩; exact ⟨x, ⟨t, ht, hx⟩, rfl⟩

omit [DecidableEq T] in
/-- A piece made up of smaller ones is those, at some values; -/
theorem owns_sub_split (Y : r'.shape.Idx → Val e) :
    (owns c (m.slice r' hr') q Y : sProp 𝕄) ⊢ bigSep Finset.univ fun t => iprop(∃ Z, owns c (m.slice (r t) (hr t)) q Z) := by
  have h : (owns c (m.slice r' hr') q Y : sProp 𝕄)
      ⊢ iprop(∃ f, ⌜(m.slice r' hr').view.read Val f = Y⌝ ∗ ((m.slice r' hr').view.loc c ↦[(m.slice r' hr').view.set]{q} f)) := by
    unfold owns; exact .rfl
  refine h.trans ?_
  iintro ⟨%f, -, H⟩
  have h2 : ((m.slice r' hr').view.loc c ↦[(m.slice r' hr').view.set]{q} f : sProp 𝕄)
      ⊢ bigSep Finset.univ fun t => iprop(∃ Z, owns c (m.slice (r t) (hr t)) q Z) := by
    rw [slice_set_biUnion c m r r' hr' hcov, pointsTo_biUnion _ _ fun t _ t' _ htt => by
      rw [View.set_slice, View.set_slice]; exact (Finset.disjoint_map _).mpr (hd t t' htt)]
    refine bigSep_mono fun t _ => ?_
    refine (owns_intro c (m.slice (r t) (hr t)) q f).trans ?_
    iintro H; iexists _; iexact H
  iapply h2 $$ H

/-- and smaller pieces that make up a piece, at their parts of some values, are the piece at its part of them. -/
theorem owns_sub_join [∀ e, Nonempty (Val e)] (X : sh.Idx → Val e) :
    bigSep Finset.univ (fun t => owns c (m.slice (r t) (hr t)) q (fun j => X ((r t).emb j)))
      ⊢ (owns c (m.slice r' hr') q (fun j => X (r'.emb j)) : sProp 𝕄) := by
  refine (owns_rects_join c m q r hr hd X Finset.univ).trans ?_
  rw [← slice_set_biUnion c m r r' hr' hcov]
  iintro ⟨%g, %hg, H⟩
  have e : (m.slice r' hr').view.read Val g = fun j => X (r'.emb j) := by
    funext j
    have hj : r'.emb j ∈ (Finset.univ : Finset T).biUnion (fun t => (r t).set) := by
      rw [hcov]; exact r'.map_emb_univ ▸ Finset.mem_map_of_mem _ (Finset.mem_univ j)
    obtain ⟨t, ht, hm⟩ := Finset.mem_biUnion.mp hj
    obtain ⟨i, hi⟩ := (r t).exists_idx_of_mem hm
    have hi' : (r t).emb i = r'.emb j := hi
    have h := hg t ht i
    rw [hi'] at h
    exact h
  rw [← e]
  iapply (owns_intro c (m.slice r' hr') q g) $$ H

end Parts

section Steps

variable [Preorder Lvl] {Λ : Labels} {defs : Defs nD τ sig Val Λ} (𝒱 : Variants) (c : Thread nD τ) (bd : Option 𝒱.V)
variable {α : Type} {Q : α → sProp (MT nD τ sig Ix Val Name U Lvl)} {sp : CoreSpace} {s : Shape} {e : EltTy}

/-- A load of a piece reads the values it holds. -/
theorem wp_load_owns {m : Memref sig c.2.kind sp s e} {r : Rect s} (hr : ∀ a, r.stride a = 1) {hl : m.view.LoadsAt r}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE defs 𝒱 c bd) Set.univ (k X) Q)
          -∗ wp frame (wpE defs 𝒱 c bd) Set.univ (.op (.load m r hl) k) Q) := by
  have h : (owns c (m.slice r hr) q X : sProp 𝕄)
      ⊢ iprop(∃ f, ⌜(m.slice r hr).view.read Val f = X⌝ ∗ ((m.slice r hr).view.loc c ↦[(m.slice r hr).view.set]{q} f)) := by
    unfold owns; exact .rfl
  refine h.trans ?_
  iintro ⟨%f, %hf, H⟩ Hk
  iapply (wp_load_rect 𝒱 c bd Set.univ (m := m) (r := r) (f := f) (S := (m.access r).set) (Finset.Subset.refl _)) $$ H
  iintro H
  have e : (m.access r).read Val f = X := hf
  rw [e]
  iapply Hk
  subst hf
  iapply (owns_intro c (m.slice r hr) q f) $$ H

/-- A store to a piece leaves the values stored. -/
theorem wp_store_owns {m : Memref sig c.2.kind sp s e} {r : Rect s} (hr : ∀ a, r.stride a = 1) {w : r.shape.Idx → Val e}
    {hx : (m.access r).Stores Finset.univ} {hm : Finset.univ = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE defs 𝒱 c bd) Set.univ (k ⟨⟩) Q)
          -∗ wp frame (wpE defs 𝒱 c bd) Set.univ (.op (.store m r w Finset.univ hx hm) k) Q) := by
  have h : (owns c (m.slice r hr) fullShare X : sProp 𝕄)
      ⊢ iprop(∃ f, ⌜(m.slice r hr).view.read Val f = X⌝ ∗ ((m.slice r hr).view.loc c ↦[(m.slice r hr).view.set]{fullShare} f)) := by
    unfold owns; exact .rfl
  refine h.trans ?_
  iintro ⟨%f, -, H⟩ Hk
  iapply (wp_store 𝒱 c bd Set.univ (m := m) (r := r) (w := w) (Mk := Finset.univ) (hx := hx) (hm := hm) (f := f)
    (S := (m.access r).set) (Finset.Subset.refl _)) $$ H
  iintro H
  iapply Hk
  ihave H' := (owns_intro c (m.slice r hr) fullShare ((m.access r).write Val f w Finset.univ)) $$ H
  have e : (m.slice r hr).view.read Val ((m.access r).write Val f w Finset.univ) = w :=
    View.read_write_univ f w
  rw [e]; iexact H'

/-- Reading one word of a scalar buffer owned whole. -/
theorem wp_smem_owns {m : Memref sig c.2.kind .smem s e} {r : Rect s} {hw : (m.access r).Loads} {x : r.shape.Idx}
    {k : Val e → Prog (TpuEff nD τ sig Val Λ c.2) α} {q : PosShare TreeShare} {X : s.Idx → Val e} :
    (owns c m q X : sProp 𝕄)
      ⊢ iprop((owns c m q X -∗ wp frame (wpE defs 𝒱 c bd) Set.univ (k (X (r.emb x))) Q)
          -∗ wp frame (wpE defs 𝒱 c bd) Set.univ (smemLoadElt m r hw x k) Q) := by
  have h : (owns c m q X : sProp 𝕄)
      ⊢ iprop(∃ f, ⌜m.view.read Val f = X⌝ ∗ (m.view.loc c ↦[m.view.set]{q} f)) := by
    unfold owns; exact .rfl
  refine h.trans ?_
  iintro ⟨%f, %hf, H⟩ Hk
  iapply (wp_smemLoadElt 𝒱 c bd Set.univ (m := m) (r := r) (x := x) (S := m.view.set) (f := f) (View.set_slice_subset _ _)) $$ H
  iintro H
  have e : (m.access r).read Val f x = X (r.emb x) := by rw [← hf]; rfl
  rw [e]
  iapply Hk
  subst hf
  iapply (owns_intro c m q f) $$ H

end Steps

end Cert.KernelIdeal.Run

end
-- ==== Proof.Values.lean ====
module

public import proofs.«01_k».proof.Proof.Owns

@[expose] public section

noncomputable section

namespace Cert.KernelIdeal.Run

open Idealize.ShloMosaic Idealize.SL.Sem Cert.KernelIdeal.Gen

variable {F : FTy → Type} [FloatOps F]

/-! # What every buffer holds, as a function of what the devices were given -/

/-- What the kernel is given on every device: the wanted local rows, the mask, the device's rows of the table. -/
structure Inp (F : FTy → Type) where
  ids : Dev nD → S1024.Idx → Elt F .i32
  msk : Dev nD → S1024x1.Idx → Elt F .f32
  tab : Dev nD → S16384x1024.Idx → Elt F .f32

/-- A word brought between 0 and 16383 is at most 16383. -/
theorem clip_le (w : BitVec 32) : (Scalar.maxsi (Scalar.minsi w 16383#32) 0#32).toNat ≤ 16383 := by
  unfold Scalar.maxsi Scalar.minsi IntOp.maxsi IntOp.minsi
  by_cases h : w.slt 16383#32
  · rw [if_pos h]
    by_cases h' : (0#32).slt w
    · rw [if_pos h']
      rw [BitVec.slt_iff_toInt_lt] at h h'
      have e : (16383#32 : BitVec 32).toInt = 16383 := by decide
      have e' : (0#32 : BitVec 32).toInt = 0 := by decide
      rw [e] at h; rw [e'] at h'
      have := BitVec.toInt_eq_toNat_cond w
      split at this <;> omega
    · rw [if_neg h']; decide
  · rw [if_neg h]; decide

/-- So the row it names lies in the table, whatever the word. -/
theorem chk1_all (w : BitVec 32) : k0_chk1 w := by
  intro a
  have := clip_le w
  fin_cases a
  · show (Scalar.maxsi (Scalar.minsi w 16383#32) 0#32).toNat + 1 ≤ 16384; omega
  · show 0 + 1024 ≤ 1024; omega

/-- The row of the table a word names. -/
abbrev tabR (w : BitVec 32) : Rect S16384x1024 :=
  Rect.unit (s := S16384x1024) (k0_off3 w) S1x1024.size (k0_off3_inb w (chk1_all w))

/-- The row of the gathered rows that trip `t` of chunk `k` fills, -/
abbrev rowR (k : Fin 16) (t : Fin loop64.trips) : Rect S1024x1024 :=
  Rect.unit (s := S1024x1024) (rowOff k t) S1x1024.size (rowOff_inb k t)

/-- and its place among the wanted rows. -/
abbrev idR (k : Fin 16) (t : Fin loop64.trips) : Rect S1024 :=
  Rect.unit (s := S1024) (idOff k t) S1.size (idOff_inb k t)

/-- The word trip `t` of chunk `k` reads. -/
def idAt (v : Inp F) (c : Dev nD) (k : Fin 16) (t : Fin loop64.trips) : BitVec 32 :=
  v.ids c ((idR k t).emb (Shape.Idx.first (numel1_S1.symm ▸ Nat.one_pos)))

/-- The entry of the table in the row a word names, at a column. -/
def tabIx (w : BitVec 32) (x : Fin 1024) : S16384x1024.Idx :=
  fun a => ⟨(![(k0_off3 w) 0, x.val] : Fin 2 → Nat) a, by
    have h := chk1_all w 0
    have hx := x.isLt
    fin_cases a
    · show (k0_off3 w) 0 < 16384
      have h' : (k0_off3 w) 0 + 1 ≤ 16384 := h
      omega
    · exact hx⟩

/-- The place among the wanted rows of a row of the gathered ones. -/
def rowIx (i : S1024x1024.Idx) : S1024.Idx := fun a => ⟨(i 0).val, by fin_cases a; exact (i 0).isLt⟩

/-- The gathered rows of device `c`: row `i` is the row of its part of the table that its `i`-th word names. -/
def gath (v : Inp F) (c : Dev nD) : S1024x1024.Idx → Elt F .f32 :=
  fun i => v.tab c (tabIx (v.ids c (rowIx i)) (i 1))

/-- A single-row index has row 0. -/
theorem row0 (j : S1x1024.Idx) : (j 0).val = 0 := by have h : (j 0).val < 1 := (j 0).isLt; omega

/-- What trip `t` of chunk `k` copies is its row of the gathered rows. -/
theorem gath_row (v : Inp F) (c : Dev nD) (k : Fin 16) (t : Fin loop64.trips) (j : S1x1024.Idx) :
    gath v c ((rowR k t).emb j) = v.tab c ((tabR (idAt v c k t)).emb j) := by
  have e : v.ids c (rowIx ((rowR k t).emb j)) = idAt v c k t := by
    unfold idAt
    congr 1
    funext a
    apply Fin.ext
    obtain rfl : a = 0 := Subsingleton.elim _ _
    have h1 : ((rowR k t).emb j 0).val = 64 * k.val + t.val := by
      rw [Rect.emb_apply]; show (rowOff k t) 0 + 1 * (j 0).val = _
      rw [rowOff_eq, row0 j]; simp
    have h2 : ((idR k t).emb (Shape.Idx.first (numel1_S1.symm ▸ Nat.one_pos)) 0).val = 64 * k.val + t.val := by
      rw [Rect.emb_apply]
      have : ((Shape.Idx.first (numel1_S1.symm ▸ Nat.one_pos) : S1.Idx) 0).val = 0 := by
        have := ((Shape.Idx.first (numel1_S1.symm ▸ Nat.one_pos) : S1.Idx) 0).isLt
        have h : ((Shape.Idx.first (numel1_S1.symm ▸ Nat.one_pos) : S1.Idx) 0).val < 1 := this
        omega
      show (idOff k t) 0 + 1 * _ = _
      rw [idOff_eq]
      show 64 * k.val + t.val + 1 * ((Shape.Idx.first (numel1_S1.symm ▸ Nat.one_pos) : S1.Idx) 0).val = _
      rw [this]; omega
    exact h1.trans h2.symm
  unfold gath
  rw [e]
  congr 1
  funext a
  apply Fin.ext
  rw [Rect.emb_apply]
  fin_cases a
  · show (k0_off3 (idAt v c k t)) 0 = (k0_off3 (idAt v c k t)) 0 + 1 * (j 0).val
    rw [row0 j]; omega
  · show ((rowR k t).emb j 1).val = 0 + 1 * (j 1).val
    rw [Rect.emb_apply]
    show (rowOff k t) 1 + 1 * (j 1).val = _
    rw [rowOff_eq]; rfl

/-- Chunk `k` of the gathered rows, -/
def gV (v : Inp F) (c : Dev nD) (k : Fin 16) : Vec F S64x1024 .f32 := fun j => gath v c ((chunkR k).emb j)
/-- rounded to half width, -/
def bV (v : Inp F) (c : Dev nD) (k : Fin 16) : Vec F S64x1024 .bf16 := k0_pay1 (gV v c k)
/-- chunk `k` of the mask, -/
def aV (v : Inp F) (c : Dev nD) (k : Fin 16) : Vec F S64x1 .f32 := fun j => v.msk c ((maskR k).emb j)
/-- the merged rows as they are sent, -/
def mV (v : Inp F) (c : Dev nD) (k : Fin 16) : Vec F S64x1024 .bf16 := k0_pay6 (aV v c k) (bV v c k) (bV v (xn c) k)
/-- as they are put in the result, -/
def ownV (v : Inp F) (c : Dev nD) (k : Fin 16) : Vec F S64x1024 .f32 := k0_pay7 (aV v c k) (bV v c k) (bV v (xn c) k)
/-- and what the device across the ids' cut merged, as it is put in the result. -/
def othV (v : Inp F) (c : Dev nD) (k : Fin 16) : Vec F S64x1024 .f32 := k0_pay75 (mV v (yn c) k)

/-- Where the chunks go in the result: chunk `k` of this device's half (`true`) and of the other half (`false`). -/
def outR (c : Dev nD) : Bool × Fin 16 → Rect S2048x1024
  | (true, k) => Rect.unit (s := S2048x1024) (k0_off25 c (BitVec.ofNat 32 (64 * k.val))) S64x1024.size (k0_off25_inb c k)
  | (false, k) => Rect.unit (s := S2048x1024) (k0_off66 c (BitVec.ofNat 32 (64 * k.val))) S64x1024.size (k0_off66_inb c k)

/-- The first row of each. -/
def outOff (c : Dev nD) : Bool × Fin 16 → Nat
  | (true, k) => 1024 * (c.val % 2) + 64 * k.val
  | (false, k) => (64 * k.val + 1024) - 1024 * (c.val % 2)

theorem outR_mem (c : Dev nD) (t : Bool × Fin 16) (i : S2048x1024.Idx) :
    i ∈ (outR c t).set ↔ outOff c t ≤ (i 0).val ∧ (i 0).val < outOff c t + 64 := by
  have h1 : (i 1).val < 1024 := (i 1).isLt
  have key : ∀ off : Fin 2 → Nat, off = ![outOff c t, 0] →
      ((∀ a, off a ≤ (i a).val ∧ (i a).val < off a + S64x1024.size a) ↔ outOff c t ≤ (i 0).val ∧ (i 0).val < outOff c t + 64) := by
    rintro off rfl
    constructor
    · intro h; exact h 0
    · intro h a
      fin_cases a
      · exact h
      · exact ⟨Nat.zero_le _, by show (i 1).val < 0 + 1024; omega⟩
  obtain ⟨b, k⟩ := t
  cases b
  · unfold outR; rw [Rect.mem_set_unit]; exact key _ (k0_off66_eq c k)
  · unfold outR; rw [Rect.mem_set_unit]; exact key _ (k0_off25_eq c k)

theorem outR_emb (c : Dev nD) (b : Bool) (k : Fin 16) (j : S64x1024.Idx) :
    (match b with
      | true => ((outR c (true, k)).emb j 0).val
      | false => ((outR c (false, k)).emb j 0).val) = outOff c (b, k) + (j 0).val
    ∧ (match b with
      | true => ((outR c (true, k)).emb j 1).val
      | false => ((outR c (false, k)).emb j 1).val) = (j 1).val := by
  cases b
  · constructor
    · show ((outR c (false, k)).off 0) + 1 * (j 0).val = _
      show (k0_off66 c (BitVec.ofNat 32 (64 * k.val))) 0 + 1 * (j 0).val = _
      rw [k0_off66_eq, Nat.one_mul]; rfl
    · show (k0_off66 c (BitVec.ofNat 32 (64 * k.val))) 1 + 1 * (j 1).val = _
      rw [k0_off66_eq]; simp
  · constructor
    · show (k0_off25 c (BitVec.ofNat 32 (64 * k.val))) 0 + 1 * (j 0).val = _
      rw [k0_off25_eq, Nat.one_mul]; rfl
    · show (k0_off25 c (BitVec.ofNat 32 (64 * k.val))) 1 + 1 * (j 1).val = _
      rw [k0_off25_eq]; simp

/-- The chunks of the result are apart, -/
theorem outR_disjoint (c : Dev nD) (t t' : Bool × Fin 16) (h : t ≠ t') : Disjoint (outR c t).set (outR c t').set := by
  rw [Finset.disjoint_left]
  intro i hi hi'
  rw [outR_mem] at hi hi'
  apply h
  have hc : c.val % 2 = 0 ∨ c.val % 2 = 1 := by omega
  obtain ⟨b, k⟩ := t
  obtain ⟨b', k'⟩ := t'
  have hk := k.isLt
  have hk' := k'.isLt
  cases b <;> cases b' <;> simp only [outOff] at hi hi' <;> first
    | (refine Prod.ext rfl (Fin.ext ?_); show k.val = k'.val; omega)
    | (exfalso; omega)

/-- and make up the whole of it. -/
theorem outR_cover (c : Dev nD) : Finset.univ.biUnion (fun t => (outR c t).set) = Finset.univ := by
  rw [Finset.eq_univ_iff_forall]
  intro i
  rw [Finset.mem_biUnion]
  have hi : (i 0).val < 2048 := (i 0).isLt
  have hc : c.val % 2 = 0 ∨ c.val % 2 = 1 := by omega
  by_cases h : (i 0).val / 1024 = c.val % 2
  · refine ⟨(true, ⟨(i 0).val % 1024 / 64, by omega⟩), Finset.mem_univ _, ?_⟩
    rw [outR_mem]; simp only [outOff]; omega
  · refine ⟨(false, ⟨(i 0).val % 1024 / 64, by omega⟩), Finset.mem_univ _, ?_⟩
    rw [outR_mem]; simp only [outOff]; omega

/-- The chunk of 1024 rows a row of the result is in, and its place there. -/
def outK (i : S2048x1024.Idx) : Fin 16 := ⟨(i 0).val % 1024 / 64, by omega⟩
def outJ (i : S2048x1024.Idx) : S64x1024.Idx :=
  fun a => ⟨(![(i 0).val % 64, (i 1).val] : Fin 2 → Nat) a, by
    have h1 : (i 1).val < 1024 := (i 1).isLt
    fin_cases a
    · show (i 0).val % 64 < 64; omega
    · exact h1⟩

/-- The result of device `c`: its own merged rows in its half, what the device across the ids' cut merged in the other. -/
def outV (v : Inp F) (c : Dev nD) : S2048x1024.Idx → Elt F .f32 :=
  fun i => if (i 0).val / 1024 = c.val % 2 then ownV v c (outK i) (outJ i) else othV v c (outK i) (outJ i)

/-- Reading the result in a chunk of this device's half, -/
theorem outV_own (v : Inp F) (c : Dev nD) (k : Fin 16) :
    (fun j => outV v c ((outR c (true, k)).emb j)) = ownV v c k := by
  funext j
  have hj : (j 0).val < 64 := (j 0).isLt
  have hk := k.isLt
  have hc : c.val % 2 = 0 ∨ c.val % 2 = 1 := by omega
  obtain ⟨h0, h1⟩ := outR_emb c true k j
  simp only [outOff] at h0 h1
  unfold outV
  rw [if_pos (by omega)]
  have ek : outK ((outR c (true, k)).emb j) = k := Fin.ext (by show _ % 1024 / 64 = _; omega)
  have ej : outJ ((outR c (true, k)).emb j) = j := by
    funext a; apply Fin.ext
    fin_cases a
    · show ((outR c (true, k)).emb j 0).val % 64 = (j 0).val; omega
    · exact h1
  rw [ek, ej]

/-- and of the other. -/
theorem outV_oth (v : Inp F) (c : Dev nD) (k : Fin 16) :
    (fun j => outV v c ((outR c (false, k)).emb j)) = othV v c k := by
  funext j
  have hj : (j 0).val < 64 := (j 0).isLt
  have hk := k.isLt
  have hc : c.val % 2 = 0 ∨ c.val % 2 = 1 := by omega
  obtain ⟨h0, h1⟩ := outR_emb c false k j
  simp only [outOff] at h0 h1
  unfold outV
  rw [if_neg (by omega)]
  have ek : outK ((outR c (false, k)).emb j) = k := Fin.ext (by show _ % 1024 / 64 = _; omega)
  have ej : outJ ((outR c (false, k)).emb j) = j := by
    funext a; apply Fin.ext
    fin_cases a
    · show ((outR c (false, k)).emb j 0).val % 64 = (j 0).val; omega
    · exact h1
  rw [ek, ej]

/-! ## The chunks of the 1024-row buffers, and their rows -/

theorem chunkR_mem (k : Fin 16) (i : S1024x1024.Idx) :
    i ∈ (chunkR k).set ↔ 64 * k.val ≤ (i 0).val ∧ (i 0).val < 64 * k.val + 64 := by
  rw [Rect.mem_set_unit]
  have h1 : (i 1).val < 1024 := (i 1).isLt
  refine ⟨fun h => h 0, fun h a => ?_⟩
  fin_cases a
  · exact h
  · exact ⟨Nat.zero_le _, by show (i 1).val < 0 + 1024; omega⟩

theorem maskR_mem (k : Fin 16) (i : S1024x1.Idx) :
    i ∈ (maskR k).set ↔ 64 * k.val ≤ (i 0).val ∧ (i 0).val < 64 * k.val + 64 := by
  rw [Rect.mem_set_unit]
  have h1 : (i 1).val < 1 := (i 1).isLt
  refine ⟨fun h => h 0, fun h a => ?_⟩
  fin_cases a
  · exact h
  · exact ⟨Nat.zero_le _, by show (i 1).val < 0 + 1; omega⟩

theorem rowR_mem (k : Fin 16) (t : Fin loop64.trips) (i : S1024x1024.Idx) :
    i ∈ (rowR k t).set ↔ (i 0).val = 64 * k.val + t.val := by
  rw [Rect.mem_set_unit, rowOff_eq]
  have h1 : (i 1).val < 1024 := (i 1).isLt
  constructor
  · intro h
    have h0 := h 0
    have h' : 64 * k.val + t.val ≤ (i 0).val ∧ (i 0).val < 64 * k.val + t.val + 1 := h0
    omega
  · intro h a
    fin_cases a
    · show 64 * k.val + t.val ≤ (i 0).val ∧ (i 0).val < 64 * k.val + t.val + 1; omega
    · exact ⟨Nat.zero_le _, by show (i 1).val < 0 + 1024; omega⟩

/-- Chunks are apart, -/
theorem chunkR_disjoint (k k' : Fin 16) (h : k ≠ k') : Disjoint (chunkR k).set (chunkR k').set := by
  rw [Finset.disjoint_left]
  intro i hi hi'
  rw [chunkR_mem] at hi hi'
  exact h (Fin.ext (by omega))

/-- and make up the buffer; -/
theorem chunkR_cover : Finset.univ.biUnion (fun k => (chunkR k).set) = Finset.univ := by
  rw [Finset.eq_univ_iff_forall]
  intro i
  have hi : (i 0).val < 1024 := (i 0).isLt
  exact Finset.mem_biUnion.mpr ⟨⟨(i 0).val / 64, by omega⟩, Finset.mem_univ _, by rw [chunkR_mem]; dsimp only; omega⟩

/-- so are those of the mask, -/
theorem maskR_disjoint (k k' : Fin 16) (h : k ≠ k') : Disjoint (maskR k).set (maskR k').set := by
  rw [Finset.disjoint_left]
  intro i hi hi'
  rw [maskR_mem] at hi hi'
  exact h (Fin.ext (by omega))

theorem maskR_cover : Finset.univ.biUnion (fun k => (maskR k).set) = Finset.univ := by
  rw [Finset.eq_univ_iff_forall]
  intro i
  have hi : (i 0).val < 1024 := (i 0).isLt
  exact Finset.mem_biUnion.mpr ⟨⟨(i 0).val / 64, by omega⟩, Finset.mem_univ _, by rw [maskR_mem]; dsimp only; omega⟩

/-- The rows of a chunk are apart, -/
theorem rowR_disjoint (k : Fin 16) (t t' : Fin loop64.trips) (h : t ≠ t') : Disjoint (rowR k t).set (rowR k t').set := by
  rw [Finset.disjoint_left]
  intro i hi hi'
  rw [rowR_mem] at hi hi'
  exact h (Fin.ext (by omega))

/-- and make up the chunk. -/
theorem rowR_cover (k : Fin 16) : Finset.univ.biUnion (fun t => (rowR k t).set) = (chunkR k).set := by
  ext i
  rw [Finset.mem_biUnion, chunkR_mem]
  constructor
  · rintro ⟨t, -, ht⟩
    rw [rowR_mem] at ht
    have : t.val < 64 := loop64_trips ▸ t.isLt
    omega
  · intro h
    exact ⟨⟨(i 0).val - 64 * k.val, by rw [loop64_trips]; omega⟩, Finset.mem_univ _, by rw [rowR_mem]; dsimp only; omega⟩

end Cert.KernelIdeal.Run

end
-- ==== Proof.Protocol.lean ====
module

public import proofs.«01_k».proof.Proof.Values
public import Idealize.ShloMosaic.Lib.Pipeline.Kit

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-! # What the devices hand each other, and when

Chunk `k` of device `c` goes round twice. Its rounded rows go to the device across the table's cut, and the merged
rows to the device across the ids' cut. Each of the four semaphores of a chunk (sent and received, of either exchange) is
raised once; the barrier is raised once by each of the two neighbours, who hand over their buffers with it. -/

variable {F : FTy → Type} [FloatOps F]

/-! ## The ghost state -/

/-- The staging library's own part, this protocol's (each cell's payments named by a truth value), and the counters of the row copies. -/
abbrev UK : Type := URounds (GSem nD τ sig) Bool
abbrev UU : Type := UR sig nD τ × (UK × Counters)

local notation "𝕄" => MT nD τ sig Unit (Elt F) ℕ UU ℕ

abbrev EP : Emb (UR sig nD τ) (MT nD τ sig Unit (Elt F) ℕ UU ℕ) := embL

/-- Where this protocol's part lies. -/
def ER : Emb UK (MT nD τ sig Unit (Elt F) ℕ UU ℕ) :=
  ((Emb.inl : Emb UK (UK × Counters)).trans (Emb.inr : Emb (UK × Counters) UU)).trans
    (uEmb (nD := nD) (τ := τ) (sig := sig) (Ix := Unit) (Val := Elt F) (Name := ℕ) (U := UU) (Lvl := ℕ)).toEmb
instance ER_landsIn : (ER (F := F)).LandsIn (upEmb : UEmb _ 𝕄) := by unfold ER; infer_instance

/-- Where the counters lie. -/
def EC : UEmb Counters (MT nD τ sig Unit (Elt F) ℕ UU ℕ) := countersEmb
instance EC_landsIn : (EC (F := F)).LandsIn (upEmb : UEmb _ 𝕄) := by unfold EC; infer_instance

/-! ## The neighbours -/

theorem xn_xn : ∀ c : Dev nD, xn (xn c) = c := by decide +kernel
theorem yn_yn : ∀ c : Dev nD, yn (yn c) = c := by decide +kernel
theorem xn_ne_yn : ∀ c : Dev nD, xn c ≠ yn c := by decide +kernel

/-! ## Cells -/

/-- The barrier. -/
abbrev barS : Sem sig := (SemArray.scalar (sig.barrier 0 rfl) : Sems sig S_).sem
abbrev barCell (c : Dev nD) : GSem nD τ sig := ((c : Thread nD τ), .reg barS)
/-- Semaphore `k` of family `j` on device `c`. -/
abbrev cell (c : Dev nD) (j : Fin 5) (k : Fin 16) : GSem nD τ sig := ((c : Thread nD τ), .dma (dsem j k))

/-- The family and the chunk of a semaphore, by its number. -/
def famOf (s : DmaSem sig) : ℕ := (s.val - 3) / 16
def chOf (s : DmaSem sig) : Fin 16 := ⟨(s.val - 3) % 16, Nat.mod_lt _ (by decide)⟩

@[simp] theorem famOf_dsem (j : Fin 5) (k : Fin 16) : famOf (dsem j k) = j.val := by
  unfold famOf; rw [dsem_val]; have := k.isLt; omega
@[simp] theorem chOf_dsem (j : Fin 5) (k : Fin 16) : chOf (dsem j k) = k := by
  apply Fin.ext; show ((dsem j k).val - 3) % 16 = k.val; rw [dsem_val]; have := k.isLt; omega

theorem dsem_inj {j j' : Fin 5} {k k' : Fin 16} (h : dsem j k = dsem j' k') : j = j' ∧ k = k' :=
  ⟨Fin.ext (by rw [← famOf_dsem j k, h, famOf_dsem]), by rw [← chOf_dsem j k, h, chOf_dsem]⟩

theorem cell_inj {c c' : Dev nD} {j j' : Fin 5} {k k' : Fin 16} (h : cell c j k = cell c' j' k') : c = c' ∧ j = j' ∧ k = k' := by
  have h1 : (c : Thread nD τ) = (c' : Thread nD τ) := congrArg Prod.fst h
  have h2 : (SemLoc.dma (dsem j k) : SemLoc sig) = .dma (dsem j' k') := congrArg Prod.snd h
  exact ⟨congrArg Prod.fst h1, dsem_inj (SemLoc.dma.inj h2)⟩

/-- What a chunk of half-width rows counts for on its semaphores, -/
abbrev N : ℕ := RefSig.tileCredit S64x1024 .bf16
theorem N_pos : 0 < N := RefSig.tileCredit_pos _ _ (by decide)
/-- and a single gathered row on its own. -/
abbrev N₁ : ℕ := RefSig.tileCredit S1x1024 .f32
theorem N₁_pos : 0 < N₁ := RefSig.tileCredit_pos _ _ (by decide)

/-! ## Pieces of buffers -/

section Pieces

variable (c : Dev nD) {sp : Space} {e : EltTy}

/-- Chunk `k` of a 1024-row buffer of device `c` at values `X`, held to the extent `q`. -/
abbrev ck (m : Memref sig .tc sp S1024x1024 e) (k : Fin 16) (q : PosShare TreeShare) (X : S64x1024.Idx → Elt F e) : sProp 𝕄 :=
  owns (c : Thread nD τ) (m.slice (chunkR k) (fun _ => rfl)) q X

/-- The same at some values, held whole. -/
def ckAny (m : Memref sig .tc sp S1024x1024 e) (k : Fin 16) : sProp 𝕄 := iprop(∃ X, ck (F := F) c m k fullShare X)

instance ckAny_storable (m : Memref sig .tc sp S1024x1024 e) (k : Fin 16) : BI.Storable (upEmb : UEmb _ 𝕄) (ckAny (F := F) c m k) := by
  unfold ckAny; infer_instance

end Pieces

/-! ## The payments -/

variable (B : Bufs) (v : Inp F)

/-- With its unit on the barrier of `c`, the device across the table's cut hands over its receiving buffer of the first
exchange (`false`), the device across the ids' cut that of the second (`true`), with that the chunks' semaphores there are ready. -/
def barPay (c : Dev nD) : Bool → sProp 𝕄
  | false => bigSep Finset.univ fun k : Fin 16 => iprop(ckAny (xn c) B.xr k ∗ reached ER (cell (xn c) 2 k) 0)
  | true => bigSep Finset.univ fun k : Fin 16 => iprop(ckAny (yn c) B.yr k ∗ reached ER (cell (yn c) 4 k) 0)

/-- A chunk's semaphores are paid with the piece sent (families 1 and 3) and the piece received (2 and 4), at the values they then hold. -/
def dmaPay (c : Dev nD) (k : Fin 16) : ℕ → sProp 𝕄
  | 1 => ck c B.bf k (fullShare : PosShare TreeShare).left (bV v c k)
  | 2 => ck c B.xr k fullShare (bV v (xn c) k)
  | 3 => ck c B.yb k fullShare (mV v c k)
  | 4 => ck c B.yr k fullShare (mV v (yn c) k)
  | _ => iprop(emp)

/-- One round on the barrier, of two payments of one unit, and one on each semaphore of the exchanges, of one payment. -/
def sched : Rounds.Schedule (GSem nD τ sig) Bool 𝕄 where
  duties g r := match g.1.2, g.2 with
    | .tc, .reg b => if r = 0 ∧ b = barS then Finset.univ else ∅
    | .tc, .dma s => if r = 0 ∧ 1 ≤ famOf s then {false} else ∅
    | _, _ => ∅
  unitless _ := False
  amount g _ _ := match g.2 with
    | .reg _ => 1
    | .dma _ => N
  payload g _ d := match g.2 with
    | .reg _ => barPay B g.1.1 d
    | .dma s => dmaPay B v g.1.1 (chOf s) (famOf s)
  amount_pos g _ _ _ := by
    rcases g with ⟨_, _ | _⟩
    · exact Nat.one_pos
    · exact N_pos

instance barPay_storable (c : Dev nD) (d : Bool) : BI.Storable (upEmb : UEmb _ 𝕄) (barPay (F := F) B c d) := by
  cases d <;> (unfold barPay; infer_instance)

instance dmaPay_storable (c : Dev nD) (k : Fin 16) (j : ℕ) : BI.Storable (upEmb : UEmb _ 𝕄) (dmaPay B v c k j) := by
  unfold dmaPay; split <;> infer_instance

instance sched_storable (g : GSem nD τ sig) (r : ℕ) (d : Bool) : BI.Storable (upEmb : UEmb _ 𝕄) ((sched B v).payload g r d) := by
  rcases g with ⟨t, _ | s⟩
  · exact barPay_storable B t.1 d
  · exact dmaPay_storable B v t.1 (chOf s) (famOf s)

section Facts

variable (c : Dev nD) (k : Fin 16)

theorem duties_bar : (sched B v).duties (barCell c) 0 = Finset.univ := by
  dsimp only [sched]; exact if_pos ⟨rfl, rfl⟩

theorem duties_cell (j : Fin 5) (hj : 1 ≤ j.val) : (sched B v).duties (cell c j k) 0 = {false} :=
  if_pos ⟨rfl, by rw [famOf_dsem]; exact hj⟩

theorem duties_later (g : GSem nD τ sig) (r : ℕ) (hr : 1 ≤ r) : (sched B v).duties g r = ∅ := by
  rcases g with ⟨⟨d, p⟩, b | s⟩ <;> rcases p with _ | _ | _ <;> first
    | rfl
    | exact if_neg fun h => by omega

theorem expect_bar : (sched B v).expect (barCell c) 0 = 2 := by
  unfold Schedule.expect Schedule.amountOf
  rw [duties_bar]; rfl

theorem expect_cell (j : Fin 5) (hj : 1 ≤ j.val) : (sched B v).expect (cell c j k) 0 = N := by
  unfold Schedule.expect Schedule.amountOf
  rw [duties_cell B v c k j hj, Finset.sum_singleton]; rfl

theorem payload_cell (j : Fin 5) (d : Bool) : (sched B v).payload (cell c j k) 0 d = dmaPay B v c k j.val := by
  show dmaPay B v c (chOf (dsem j k)) (famOf (dsem j k)) = _
  rw [famOf_dsem, chOf_dsem]

theorem rest_cell (j : Fin 5) (hj : 1 ≤ j.val) :
    bigSep ((sched B v).duties (cell c j k) 0 \ ∅) (fun d => (sched B v).payload (cell c j k) 0 d) = dmaPay B v c k j.val := by
  rw [Finset.sdiff_empty, duties_cell B v c k j hj, bigSep_singleton, payload_cell]

theorem rest_bar :
    bigSep ((sched B v).duties (barCell c) 0 \ ∅) (fun d => (sched B v).payload (barCell c) 0 d)
      = iprop(barPay (F := F) B c false ∗ barPay B c true) := by
  rw [Finset.sdiff_empty, duties_bar, show (Finset.univ : Finset Bool) = {false, true} by decide,
    bigSep_insert (by decide), bigSep_singleton]; rfl

end Facts

/-! ## Who may wait for whom -/

def L (g : GSem nD τ sig) : Finset Unit := if g.1.2 = .tc then {()} else ∅
/-- The barrier comes before the arrivals of the first exchange, those in the chunks' order, and they before those of the second. -/
def lv (g : GSem nD τ sig) (_ : Unit) : ℕ := match g.2 with
  | .reg _ => 1
  | .dma s => if famOf s = 2 then 2 + (chOf s).val else if famOf s = 4 then 100 + (chOf s).val else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_x (c : Dev nD) (k : Fin 16) : lv (cell c 2 k) () = 2 + k.val := by
  show (if famOf (dsem 2 k) = 2 then _ else _) = _; rw [famOf_dsem, chOf_dsem]; rfl
theorem lv_y (c : Dev nD) (k : Fin 16) : lv (cell c 4 k) () = 100 + k.val := by
  show (if famOf (dsem 4 k) = 2 then _ else _) = _; rw [famOf_dsem, chOf_dsem]; rfl
theorem lv_gather (c : Dev nD) (k : Fin 16) : lv (cell c 0 k) () = 0 := by
  show (if famOf (dsem 0 k) = 2 then _ else _) = _; rw [famOf_dsem]; rfl

/-! ## What a device owes

How far each chunk has got is a number: 0 nothing done, 1 its gather started, 2 sent in the first exchange, 3 merged and sent in
the second, 4 the other half's rows taken in, 5 all its sends read. -/

/-- What is owed for chunk `k` at stage `s`: its arrival at the device across the table's cut until it is sent there, and that at
the device across the ids' cut until it is sent there. -/
def owedAt (c : Dev nD) (k : Fin 16) (s : ℕ) : CellTallies nD τ sig Unit :=
  (if s < 2 then tallyAt (cell (xn c) 2 k) () N else 0) + (if s < 3 then tallyAt (cell (yn c) 4 k) () N else 0)

/-- All a device owes when its chunks are at the stages `st`. -/
def owed (c : Dev nD) (st : Fin 16 → ℕ) : CellTallies nD τ sig Unit := ∑ k, owedAt c k (st k)

/-- Only what is owed for the chunk that moves changes. -/
theorem owed_update (c : Dev nD) (st : Fin 16 → ℕ) (k : Fin 16) (s : ℕ) (T : CellTallies nD τ sig Unit)
    (h : owedAt c k (st k) = owedAt c k s + T) : owed c st = owed c (Function.update st k s) + T := by
  unfold owed
  rw [← Finset.add_sum_erase _ _ (Finset.mem_univ k), ← Finset.add_sum_erase (a := k) Finset.univ (fun j => owedAt c j (Function.update st k s j)) (Finset.mem_univ k),
    Function.update_self, h,
    show ∑ j ∈ Finset.univ.erase k, owedAt c j (Function.update st k s j) = ∑ j ∈ Finset.univ.erase k, owedAt c j (st j) from
      Finset.sum_congr rfl fun j hj => by rw [Function.update_of_ne (Finset.ne_of_mem_erase hj)],
    add_right_comm]

theorem owedAt_issue (c : Dev nD) (k : Fin 16) : owedAt c k 0 = owedAt c k 1 + 0 := by
  unfold owedAt; rw [add_zero]; rfl
theorem owedAt_sendX (c : Dev nD) (k : Fin 16) : owedAt c k 1 = owedAt c k 2 + tallyAt (cell (xn c) 2 k) () N := by
  unfold owedAt; simp only [show (1:ℕ) < 2 by decide, show (1:ℕ) < 3 by decide, show ¬ (2:ℕ) < 2 by decide, show (2:ℕ) < 3 by decide, if_true, if_false]; rw [zero_add, add_comm]
theorem owedAt_merge (c : Dev nD) (k : Fin 16) : owedAt c k 2 = owedAt c k 3 + tallyAt (cell (yn c) 4 k) () N := by
  unfold owedAt; simp only [show ¬ (2:ℕ) < 2 by decide, show (2:ℕ) < 3 by decide, show ¬ (3:ℕ) < 2 by decide, show ¬ (3:ℕ) < 3 by decide, if_true, if_false]; rw [add_zero]
theorem owedAt_done (c : Dev nD) (k : Fin 16) (s : ℕ) (h : 3 ≤ s) : owedAt c k s = 0 := by
  unfold owedAt; rw [if_neg (by omega), if_neg (by omega), add_zero]
theorem owed_done (c : Dev nD) (st : Fin 16 → ℕ) (h : ∀ k, 3 ≤ st k) : owed c st = 0 :=
  Finset.sum_eq_zero fun k _ => owedAt_done c k _ (h k)

/-- Whatever is owed is an arrival of the first exchange of a chunk not yet sent there, or one of the second. -/
theorem owed_pos (c : Dev nD) (st : Fin 16 → ℕ) (g : GSem nD τ sig) (u : Unit) (h : 0 < owed c st g u) :
    ∃ k, (st k < 2 ∧ g = cell (xn c) 2 k) ∨ g = cell (yn c) 4 k := by
  by_contra hn
  push Not at hn
  refine absurd h (Nat.not_lt.mpr (Nat.le_of_eq ?_))
  unfold owed
  rw [Finset.sum_apply, Finsupp.finsetSum_apply]
  refine Finset.sum_eq_zero fun k _ => ?_
  obtain ⟨h1, h2⟩ := hn k
  unfold owedAt
  rw [Pi.add_apply, Finsupp.add_apply]
  have e2 : (if st k < 3 then tallyAt (cell (yn c) 4 k) () N else 0 : CellTallies nD τ sig Unit) g u = 0 := by
    split
    · rw [tallyAt_apply, if_neg fun h => h2 h.1]
    · rfl
  have e1 : (if st k < 2 then tallyAt (cell (xn c) 2 k) () N else 0 : CellTallies nD τ sig Unit) g u = 0 := by
    split
    · next hs => rw [tallyAt_apply, if_neg fun h => h1 hs h.1]
    · rfl
  rw [e1, e2]; rfl

/-- A device may wait on a semaphore that comes before all it owes. -/
theorem mayWait_owed (c : Dev nD) (sm : SemLoc sig) (b : ℕ) (hb : lv ((c : Thread nD τ), sm) () ≤ b) (hb' : b < 100)
    (st : Fin 16 → ℕ) (hst : ∀ k, st k < 2 → b < 2 + k.val) :
    (levAts L lv : sProp 𝕄) ⊢ MayWait (c : Thread nD τ) sm () (owed c st) :=
  MayOwe.of_cut (L := L) (lev := lv) b (fun p hp => by rw [Finset.mem_singleton.mp hp, L_tc]; exact Finset.mem_singleton_self _)
    (fun g u hg => by
      obtain ⟨k, ⟨-, rfl⟩ | rfl⟩ := owed_pos c st g u hg <;> (rw [L_tc]; exact Finset.mem_singleton_self _))
    (fun p hp => by rw [Finset.mem_singleton.mp hp]; exact hb)
    (fun g u hg => by
      obtain ⟨k, ⟨hs, rfl⟩ | rfl⟩ := owed_pos c st g u hg
      · rw [lv_x]; exact hst k hs
      · rw [lv_y]; omega)

/-! ## The cells of the protocol -/

/-- The semaphores raised while the kernel runs are those of the exchanges, on every device; -/
def dCells : Finset (GSem nD τ sig) :=
  (Finset.univ : Finset (Dev nD × (Fin 4 × Fin 16))).map
    ⟨fun x => cell x.1 x.2.1.succ x.2.2, fun x y h => by
      obtain ⟨h1, h2, h3⟩ := cell_inj h
      exact Prod.ext h1 (Prod.ext (Fin.succ_injective _ h2) h3)⟩
/-- and the barriers. -/
def bCells : Finset (GSem nD τ sig) :=
  (Finset.univ : Finset (Dev nD)).map ⟨barCell, fun x y h => congrArg (fun g : GSem nD τ sig => g.1.1) h⟩

theorem mem_dCells (c : Dev nD) (j : Fin 4) (k : Fin 16) : cell c j.succ k ∈ bCells ∪ dCells :=
  Finset.mem_union_right _ (Finset.mem_map.mpr ⟨(c, j, k), Finset.mem_univ _, rfl⟩)
theorem mem_bCells (c : Dev nD) : barCell c ∈ bCells ∪ dCells :=
  Finset.mem_union_left _ (Finset.mem_map.mpr ⟨c, Finset.mem_univ _, rfl⟩)

theorem cells_disjoint : Disjoint bCells dCells := by
  rw [Finset.disjoint_left]
  intro g h h'
  obtain ⟨c, -, rfl⟩ := Finset.mem_map.mp h
  obtain ⟨x, -, hx⟩ := Finset.mem_map.mp h'
  exact absurd (congrArg Prod.snd hx) (fun h => by cases h)

/-- Every cell's invariant, at the names `K`. -/
def invs (K : GSem nD τ sig → ℕ) : sProp 𝕄 := bigSep (bCells ∪ dCells) fun g => cellInv ER (sched B v) (K g) g

instance invs_persistent (K : GSem nD τ sig → ℕ) : BI.Persistent (invs B v K) := by unfold invs; infer_instance

theorem inv_bar (K : GSem nD τ sig → ℕ) (c : Dev nD) :
    invs B v K ⊢ cellInv ER (sched B v) (K (barCell c)) (barCell c) := bigSep_elim (mem_bCells c)
theorem inv_cell (K : GSem nD τ sig → ℕ) (c : Dev nD) (j : Fin 4) (k : Fin 16) :
    invs B v K ⊢ cellInv ER (sched B v) (K (cell c j.succ k)) (cell c j.succ k) := bigSep_elim (mem_dCells c j k)

/-- A cell whose one round is over gives its counter back, at zero. -/
theorem close (K : GSem nD τ sig → ℕ) (g : GSem nD τ sig) :
    iprop(cellInv ER (sched B v) (K g) g ∗ atPos ER g (0 + 1) ∅ 0) ⊢ (|={Set.univ}=> semVal g 0 : sProp 𝕄) :=
  Rounds.cell_close ER (sched B v) (Set.mem_univ _) id (duties_later B v g)

end Cert.KernelIdeal.Run

end
-- ==== Proof.Gather.lean ====
module

public import proofs.«01_k».proof.Proof.Protocol

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Batch shareTok shareDrop)
open Cert.KernelIdeal.Gen

/-! # The gather of a chunk: 64 row copies on one semaphore, then 64 waits on it -/

variable {F : FTy → Type} [FloatOps F]

local notation "𝕄" => MT nD τ sig Unit (Elt F) ℕ UU ℕ

variable (B : Bufs) (v : Inp F) (c : Dev nD) (k : Fin 16)

/-- The part of the table's share that the copies of chunk `k` read under, -/
abbrev tq : PosShare TreeShare := shareTok fullShare 16 k
/-- and that of trip `t` alone. -/
abbrev tqr (t : Fin loop64.trips) : PosShare TreeShare := shareTok (tq k) loop64.trips t

/-- The row of the table that trip `t` copies. -/
abbrev tabRow (t : Fin loop64.trips) : Memref sig .tc .hbm S1x1024 .f32 := B.tab.slice (tabR (idAt v c k t)) (fun _ => rfl)
/-- The row it fills. -/
abbrev partRow (t : Fin loop64.trips) : Memref sig .tc .vmem S1x1024 .f32 := B.part.slice (rowR k t) (fun _ => rfl)

/-- What the copy of trip `t` delivers: its row filled, and the row of the table back. -/
def rowD (t : Fin loop64.trips) : sProp 𝕄 :=
  iprop(owns (c : Thread nD τ) (partRow B k t) fullShare (fun j => gath v c ((rowR k t).emb j))
    ∗ owns (c : Thread nD τ) (tabRow B v c k t) (tqr k t) (fun j => v.tab c ((tabR (idAt v c k t)).emb j)))

instance rowD_storable (t : Fin loop64.trips) : BI.Storable (upEmb : UEmb _ 𝕄) (rowD B v c k t) := by
  unfold rowD; infer_instance

/-- The rest of the table at trip `t`'s part of the share. -/
def tabKept (t : Fin loop64.trips) : sProp 𝕄 :=
  iprop(∃ f, ⌜B.tab.view.read (Elt F) f = v.tab c⌝
    ∗ (B.tab.view.loc (c : Thread nD τ) ↦[B.tab.view.set \ (tabRow B v c k t).view.set]{tqr k t} f))

/-- Before the gather: the semaphore at zero, the chunk at any values, a share of the table. -/
def gat0 : sProp 𝕄 :=
  iprop(semVal (cell c 0 k) 0 ∗ ckAny c B.part k ∗ owns (c : Thread nD τ) B.tab (tq k) (v.tab c))

/-- While it runs: the copies started, with what was kept of the table. -/
def gat1 : sProp 𝕄 :=
  iprop(Batch EC (c : Thread nD τ) (.dma (dsem 0 k)) () N₁ (rowD B v c k) loop64.trips 0
    ∗ owns (c : Thread nD τ) B.tab (shareDrop (tq k) loop64.trips) (v.tab c)
    ∗ bigSep Finset.univ fun t => tabKept B v c k t)

/-- After it: the semaphore at zero, the chunk's rows gathered, the share of the table. -/
def gat2 : sProp 𝕄 :=
  iprop(semVal (cell c 0 k) 0 ∗ ck c B.part k fullShare (gV v c k) ∗ owns (c : Thread nD τ) B.tab (tq k) (v.tab c))

/-- A trip not yet made holds its row and its part of the table; one made, what it kept of the table. -/
def rowSt (i : ℕ) (t : Fin loop64.trips) : sProp 𝕄 :=
  if t.val < i then tabKept B v c k t
  else iprop((∃ Z, owns (c : Thread nD τ) (partRow B k t) fullShare Z) ∗ owns (c : Thread nD τ) B.tab (tqr k t) (v.tab c))

variable {defs : Defs nD τ sig (Elt F) Λ₀} (𝒱 : Variants) (bd : Option 𝒱.V)
variable {α : Type} {Q : α → sProp (MT nD τ sig Unit (Elt F) ℕ UU ℕ)} {q : PosShare TreeShare}

/-- Owning is holding the elements at some contents that read so. -/
theorem owns_unfold {sp : Space} {sh : Shape} {e : EltTy} (m : Memref sig .tc sp sh e) (q : PosShare TreeShare) (X : sh.Idx → Elt F e) :
    (owns (c : Thread nD τ) m q X : sProp 𝕄)
      ⊢ iprop(∃ f, ⌜m.view.read (Elt F) f = X⌝ ∗ (m.view.loc (c : Thread nD τ) ↦[m.view.set]{q} f)) := by
  unfold owns; exact .rfl

/-- What a row copy leaves is what it delivers. -/
theorem rowD_intro (t : Fin loop64.trips) (fs : (tabRow B v c k t).view.ty.Contents (Elt F)) (fd : (partRow B k t).view.ty.Contents (Elt F))
    (hfs : (tabRow B v c k t).view.read (Elt F) fs = fun j => v.tab c ((tabR (idAt v c k t)).emb j)) :
    iprop(((partRow B k t).view.loc (c : Thread nD τ) ↦[(partRow B k t).view.set]{fullShare}
          ((partRow B k t).view.write (Elt F) fd ((ReadAs.same (Val := Elt F) (s := S1x1024) (e := .f32)).apply ((tabRow B v c k t).view.read (Elt F) fs)) Finset.univ))
        ∗ ((tabRow B v c k t).view.loc (c : Thread nD τ) ↦[(tabRow B v c k t).view.set]{tqr k t} fs))
      ⊢ (rowD B v c k t : sProp 𝕄) := by
  unfold rowD
  refine BIClass.sep_mono ((owns_intro _ _ _ _).trans (Entails.of_eq ?_)) ((owns_intro _ _ _ _).trans (Entails.of_eq ?_))
  · rw [View.read_write_univ]
    have e : ((ReadAs.same (Val := Elt F) (s := S1x1024) (e := .f32)).apply ((tabRow B v c k t).view.read (Elt F) fs)) = fun j => gath v c ((rowR k t).emb j) := by
      rw [hfs]; funext j; exact (gath_row v c k t j).symm
    rw [e]; rfl
  · rw [hfs]; rfl

/-- One trip of the starts. -/
theorem issueTrip_run (t : Fin loop64.trips) :
    iprop(Batch EC (c : Thread nD τ) (.dma (dsem 0 k)) () N₁ (rowD B v c k) t.val 0 ∗ bigSep Finset.univ (rowSt B v c k t.val)
        ∗ owns (c : Thread nD τ) B.ids q (v.ids c))
      ⊢ wp frame (wpE defs 𝒱 (c : Thread nD τ) bd) Set.univ (issueTrip B k t ⟨⟩)
          (fun _ => iprop(Batch EC (c : Thread nD τ) (.dma (dsem 0 k)) () N₁ (rowD B v c k) (t.val + 1) 0
            ∗ bigSep Finset.univ (rowSt B v c k (t.val + 1)) ∗ owns (c : Thread nD τ) B.ids q (v.ids c))) := by
  have hst : bigSep Finset.univ (rowSt B v c k t.val) ⊢ (iprop(rowSt B v c k t.val t ∗ (rowSt B v c k (t.val + 1) t -∗ bigSep Finset.univ (rowSt B v c k (t.val + 1)))) : sProp 𝕄) :=
    bigSep_univ_update t fun j hj => by
      have : j.val ≠ t.val := fun h => hj (Fin.ext h)
      unfold rowSt
      by_cases h : j.val < t.val
      · rw [if_pos (by omega), if_pos h]
      · rw [if_neg (by omega), if_neg h]
  have h0 : rowSt B v c k t.val t ⊢ (iprop((∃ Z, owns (c : Thread nD τ) (partRow B k t) fullShare Z) ∗ owns (c : Thread nD τ) B.tab (tqr k t) (v.tab c)) : sProp 𝕄) := by
    unfold rowSt; rw [if_neg (Nat.lt_irrefl _)]
  have h1 : tabKept B v c k t ⊢ (rowSt B v c k (t.val + 1) t : sProp 𝕄) := by
    unfold rowSt; rw [if_pos (Nat.lt_succ_self _)]
  unfold issueTrip smemLoad
  rw [smemLoadElt_bind]
  simp only [Prog.lift, Prog.bind_op, Prog.bind_ret, Prog.pure_eq_ret]
  iintro ⟨HB, Hst, Hids⟩
  icases hst $$ Hst with ⟨Ht, Hback⟩
  icases h0 $$ Ht with ⟨⟨%Z, Hrow⟩, Htab⟩
  iapply (wp_smem_owns 𝒱 (c : Thread nD τ) bd) $$ Hids
  iintro Hids
  iapply (wp_assume 𝒱 (c : Thread nD τ) bd Set.univ (chk1_all _))
  icases (owns_slice_split (c : Thread nD τ) B.tab (tqr k t) (tabR (idAt v c k t)) (fun _ => rfl) (v.tab c)) $$ Htab with ⟨Hsrc, Hkept⟩
  icases (owns_unfold c (tabRow B v c k t) (tqr k t) _) $$ Hsrc with ⟨%fs, %hfs, Hsrc⟩
  icases (owns_unfold c (partRow B k t) fullShare Z) $$ Hrow with ⟨%fd, %hfd, Hrow⟩
  iapply (Transfers.wp_dmaBatch EC 𝒱 (c : Thread nD τ) bd (src := tabRow B v c k t) (dst := partRow B k t) (Sd := (partRow B k t).view.set) (fd := fd) (fs := fs)
      (q := tqr k t) () N₁ rfl (Finset.Subset.refl _) t.isLt (Nat.zero_le _) (rowD_intro B v c k t fs fd hfs)) $$ [Hsrc Hrow HB]
  · isplitl [Hsrc]; · iexact Hsrc
    isplitl [Hrow]; · iexact Hrow
    iexact HB
  iintro HB
  rw [wp_ret]
  imodintro
  isplitl [HB]; · iexact HB
  isplitr [Hids]
  · iapply Hback; iapply h1; unfold tabKept; iexact Hkept
  iexact Hids

/-- The starts of a chunk's gather. -/
theorem issue_run (kk : Unit → Prog (TpuEff nD τ sig (Elt F) Λ₀ .tc) α) :
    iprop(gat0 B v c k ∗ owns (c : Thread nD τ) B.ids q (v.ids c))
      ⊢ iprop((gat1 B v c k -∗ owns (c : Thread nD τ) B.ids q (v.ids c) -∗ wp frame (wpE defs 𝒱 (c : Thread nD τ) bd) Set.univ (kk ⟨⟩) Q)
          -∗ wp frame (wpE defs 𝒱 (c : Thread nD τ) bd) Set.univ (issue B k >>= kk) Q) := by
  have hrows : iprop((bigSep Finset.univ fun t => iprop(∃ Z, owns (c : Thread nD τ) (partRow B k t) fullShare Z))
        ∗ bigSep Finset.univ fun t => owns (c : Thread nD τ) B.tab (tqr k t) (v.tab c))
      ⊢ (bigSep Finset.univ (rowSt B v c k 0) : sProp 𝕄) := by
    have ht (t : Fin loop64.trips) : iprop((∃ Z, owns (c : Thread nD τ) (partRow B k t) fullShare Z) ∗ owns (c : Thread nD τ) B.tab (tqr k t) (v.tab c))
        ⊢ (rowSt B v c k 0 t : sProp 𝕄) := by
      unfold rowSt; rw [if_neg (Nat.not_lt_zero _)]
    exact (Entails.of_eq (bigSep_sep' _ _ _).symm).trans (bigSep_mono fun t _ => ht t)
  have hkept : bigSep Finset.univ (rowSt B v c k loop64.trips) ⊢ (bigSep Finset.univ fun t => tabKept B v c k t : sProp 𝕄) :=
    have ht (t : Fin loop64.trips) : (rowSt B v c k loop64.trips t : sProp 𝕄) ⊢ tabKept B v c k t := by
      unfold rowSt; rw [if_pos t.isLt]
    bigSep_mono fun t _ => ht t
  unfold gat0 ckAny
  iintro ⟨⟨Hsem, ⟨%X, Hck⟩, Htab⟩, Hids⟩ Hk
  icases (owns_deal (c : Thread nD τ) B.tab (tq k) loop64.trips (v.tab c)) $$ Htab with ⟨Hdrop, Htabs⟩
  ihave Hrows := (owns_sub_split (c : Thread nD τ) B.part fullShare (rowR k) (fun _ _ => rfl) (rowR_disjoint k) (chunkR k) (fun _ => rfl) (rowR_cover k) X) $$ Hck
  ihave Hst := hrows $$ [Hrows Htabs]
  · isplitl [Hrows]; · iexact Hrows
    iexact Htabs
  imod (Transfers.batch_alloc' EC (c : Thread nD τ) (sm := .dma (dsem 0 k)) () N₁ (rowD B v c k)) $$ Hsem with HB
  iapply (Scf.wp_for_bind frame (wpE defs 𝒱 (c : Thread nD τ) bd) Set.univ _ _ _ k0_t1_ok ⟨⟩ (issueTrip B k)
    (fun i _ => iprop(Batch EC (c : Thread nD τ) (.dma (dsem 0 k)) () N₁ (rowD B v c k) i 0 ∗ bigSep Finset.univ (rowSt B v c k i)
      ∗ owns (c : Thread nD τ) B.ids q (v.ids c)))
    (fun t _ => issueTrip_run B v c k 𝒱 bd t)) $$ [HB Hst Hids]
  · isplitl [HB]; · iexact HB
    isplitl [Hst]; · iexact Hst
    iexact Hids
  iintro %_ ⟨HB, Hst, Hids⟩
  iapply Hk $$ [HB Hst Hdrop] [Hids]
  · unfold gat1
    isplitl [HB]; · iexact HB
    isplitl [Hdrop]; · iexact Hdrop
    iapply hkept; iexact Hst
  iexact Hids

/-- The waits so far: some left, or all made. -/
def waitSt (O : CellTallies nD τ sig Unit) (i : ℕ) : sProp 𝕄 :=
  iprop((if i < loop64.trips then Batch EC (c : Thread nD τ) (.dma (dsem 0 k)) () N₁ (rowD B v c k) loop64.trips (i * N₁)
      else iprop(bigSep Finset.univ (rowD B v c k) ∗ semVal (cell c 0 k) 0)) ∗ ∃ W, owes (c : Thread nD τ) O W)

/-- One trip of the waits. -/
theorem waitTrip_run (O : CellTallies nD τ sig Unit) (hM : (levAts L lv : sProp 𝕄) ⊢ MayWait (c : Thread nD τ) (.dma (dsem 0 k)) () O)
    (t : Fin loop64.trips) :
    iprop(waitSt B v c k O t.val ∗ levAts L lv)
      ⊢ wp frame (wpE defs 𝒱 (c : Thread nD τ) bd) Set.univ (waitTrip B k t ⟨⟩) (fun _ => iprop(waitSt B v c k O (t.val + 1) ∗ levAts L lv)) := by
  have hp : waitTrip (F := F) B k t ⟨⟩ = .op (.waitDma2 (dsem 0 k) (B.tab.slice (Rect.unit (s := S16384x1024) ![0, 0] S1x1024.size inb_S16384x1024_S1x1024_0_0) (fun _ => rfl))
    (B.part.slice (rowR k t) (fun _ => rfl)) (View.wordExact_bits rfl) (View.wordExact_bits rfl)) fun _ => .ret ⟨⟩ := rfl
  have ht := t.isLt
  rw [hp]
  unfold waitSt
  rw [if_pos ht]
  by_cases hl : t.val + 1 < loop64.trips
  · rw [if_pos hl]
    iintro ⟨⟨HB, ⟨%W, HO⟩⟩, #Hlev⟩
    iapply (Transfers.wp_waitBatchO EC 𝒱 (c : Thread nD τ) bd () (N := N₁) rfl (u := t.val * N₁)
      (by rw [← Nat.succ_mul, Nat.mul_comm N₁]; exact Nat.mul_lt_mul_of_pos_right hl N₁_pos)) $$ [HB HO]
    · isplitl [HB]; · iexact HB
      isplitl [HO]; · iexact HO
      iapply hM; iexact Hlev
    iintro ⟨HB, HO⟩
    rw [wp_ret]
    imodintro
    isplitl
    · isplitl [HB]
      · rw [Nat.succ_mul]; iexact HB
      iexists _; iexact HO
    iexact Hlev
  · rw [if_neg hl]
    iintro ⟨⟨HB, ⟨%W, HO⟩⟩, #Hlev⟩
    iapply (Transfers.wp_waitBatchLastO EC 𝒱 (c : Thread nD τ) bd () (N := N₁) rfl N₁_pos (u := t.val * N₁)
      (n := loop64.trips) (D := rowD B v c k) (by rw [← Nat.succ_mul, Nat.mul_comm N₁, show t.val.succ = loop64.trips by omega])) $$ [HB HO]
    · isplitl [HB]; · iexact HB
      isplitl [HO]; · iexact HO
      iapply hM; iexact Hlev
    iintro ⟨HD, Hsem, HO⟩
    rw [wp_ret]
    imodintro
    isplitl
    · isplitl [HD Hsem]
      · isplitl [HD]; · iexact HD
        iexact Hsem
      iexists _; iexact HO
    iexact Hlev

/-- A row of the table put back into what was kept of it. -/
theorem tab_back (t : Fin loop64.trips) :
    iprop(owns (c : Thread nD τ) (tabRow B v c k t) (tqr k t) (fun j => v.tab c ((tabR (idAt v c k t)).emb j)) ∗ tabKept B v c k t)
      ⊢ (owns (c : Thread nD τ) B.tab (tqr k t) (v.tab c) : sProp 𝕄) := by
  unfold tabKept
  iintro ⟨Hr, ⟨%f, %hf, Hk⟩⟩
  ihave H := (owns_slice_join (c : Thread nD τ) B.tab (tqr k t) (tabR (idAt v c k t)) (fun _ => rfl) (fun j => v.tab c ((tabR (idAt v c k t)).emb j)) f) $$ [Hr Hk]
  · isplitl [Hr]; · iexact Hr
    iexact Hk
  have e : (tabR (idAt v c k t)).overlay (B.tab.view.read (Elt F) f) (fun j => v.tab c ((tabR (idAt v c k t)).emb j)) = v.tab c := by
    funext i
    by_cases hi : i ∈ (tabR (idAt v c k t)).set
    · obtain ⟨j, rfl⟩ := (tabR (idAt v c k t)).exists_idx_of_mem hi
      exact Rect.overlay_emb _ _ _ j
    · rw [Rect.overlay_of_not_mem _ _ _ hi, hf]
  rw [e]
  iexact H

/-- The waits of a chunk's gather. -/
theorem wait64_run (O : CellTallies nD τ sig Unit) (hM : (levAts L lv : sProp 𝕄) ⊢ MayWait (c : Thread nD τ) (.dma (dsem 0 k)) () O)
    (kk : Unit → Prog (TpuEff nD τ sig (Elt F) Λ₀ .tc) α) :
    iprop(gat1 B v c k ∗ (∃ W, owes (c : Thread nD τ) O W) ∗ levAts L lv)
      ⊢ iprop((gat2 B v c k -∗ (∃ W, owes (c : Thread nD τ) O W) -∗ wp frame (wpE defs 𝒱 (c : Thread nD τ) bd) Set.univ (kk ⟨⟩) Q)
          -∗ wp frame (wpE defs 𝒱 (c : Thread nD τ) bd) Set.univ (wait64 B k >>= kk) Q) := by
  have hD : iprop(bigSep Finset.univ (rowD B v c k) ∗ bigSep Finset.univ fun t => tabKept B v c k t)
      ⊢ (iprop((bigSep Finset.univ fun t => owns (c : Thread nD τ) (partRow B k t) fullShare (fun j => gath v c ((rowR k t).emb j)))
          ∗ bigSep Finset.univ fun t => owns (c : Thread nD τ) B.tab (tqr k t) (v.tab c)) : sProp 𝕄) := by
    have ht (t : Fin loop64.trips) : iprop(rowD B v c k t ∗ tabKept B v c k t)
        ⊢ (iprop(owns (c : Thread nD τ) (partRow B k t) fullShare (fun j => gath v c ((rowR k t).emb j))
          ∗ owns (c : Thread nD τ) B.tab (tqr k t) (v.tab c)) : sProp 𝕄) := by
      unfold rowD
      iintro ⟨⟨Hp, Ht⟩, Hk⟩
      isplitl [Hp]; · iexact Hp
      iapply (tab_back B v c k t)
      isplitl [Ht]; · iexact Ht
      iexact Hk
    exact (Entails.of_eq (bigSep_sep' _ _ _).symm).trans ((bigSep_mono fun t _ => ht t).trans (Entails.of_eq (bigSep_sep' _ _ _)))
  have hz : waitSt B v c k O loop64.trips ⊢ (iprop((bigSep Finset.univ (rowD B v c k) ∗ semVal (cell c 0 k) 0) ∗ ∃ W, owes (c : Thread nD τ) O W) : sProp 𝕄) := by
    unfold waitSt; rw [if_neg (Nat.lt_irrefl _)]
  have h0 : iprop(Batch EC (c : Thread nD τ) (.dma (dsem 0 k)) () N₁ (rowD B v c k) loop64.trips 0 ∗ ∃ W, owes (c : Thread nD τ) O W)
      ⊢ (waitSt B v c k O 0 : sProp 𝕄) := by
    unfold waitSt; rw [if_pos (by decide +kernel), Nat.zero_mul]
  unfold gat1
  iintro ⟨⟨HB, Hdrop, Hkept⟩, HO, #Hlev⟩ Hk
  iapply (Scf.wp_for_bind frame (wpE defs 𝒱 (c : Thread nD τ) bd) Set.univ _ _ _ k0_t1_ok ⟨⟩ (waitTrip B k)
    (fun i _ => iprop(waitSt B v c k O i ∗ levAts L lv))
    (fun t _ => waitTrip_run B v c k 𝒱 bd O hM t)) $$ [HB HO]
  · isplitl
    · iapply h0; isplitl [HB]; · iexact HB
      iexact HO
    iexact Hlev
  iintro %_ ⟨Hst, -⟩
  icases hz $$ Hst with ⟨⟨HD, Hsem⟩, HO⟩
  icases hD $$ [HD Hkept] with ⟨Hrows, Htabs⟩
  · isplitl [HD]; · iexact HD
    iexact Hkept
  iapply Hk $$ [Hsem Hrows Htabs Hdrop] [HO]
  · unfold gat2
    isplitl [Hsem]; · iexact Hsem
    isplitl [Hrows]
    · iapply (owns_sub_join (c : Thread nD τ) B.part fullShare (rowR k) (fun _ _ => rfl) (rowR_disjoint k) (chunkR k) (fun _ => rfl) (rowR_cover k) (gath v c))
      iexact Hrows
    iapply (owns_undeal (c : Thread nD τ) B.tab (tq k) loop64.trips (v.tab c))
    isplitl [Hdrop]; · iexact Hdrop
    iexact Htabs
  iexact HO

end Cert.KernelIdeal.Run

end
-- ==== Proof.Steps.lean ====
module

public import proofs.«01_k».proof.Proof.Gather

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

/-! # The steps of a chunk

A chunk's holdings at each stage, and what each step of the body does to them. -/

variable {F : FTy → Type} [FloatOps F]

local notation "𝕄" => MT nD τ sig Unit (Elt F) ℕ UU ℕ

variable (B : Bufs) (v : Inp F) (K : GSem nD τ sig → ℕ) (c : Dev nD) (k : Fin 16) (qm : PosShare TreeShare)

/-! ## What is held -/

/-- A semaphore to be waited on: the place in its schedule and the credit for its round. -/
def pend (j : Fin 4) : sProp 𝕄 :=
  iprop(atPos ER (cell c j.succ k) 0 ∅ 0 ∗ cred (tallyAt (cell c j.succ k) () N))

/-- A send not yet made, from a chunk of `src` to device `n`: the sending semaphore `js` here and the receiving one `jd` there are to be paid. -/
def toSend (js jd : Fin 4) (n : Dev nD) (src : Memref sig .tc .vmem S1024x1024 .bf16) : sProp 𝕄 :=
  iprop(atPos ER (cell c js.succ k) 0 ∅ 0 ∗ reached ER (cell c js.succ k) 0 ∗ dutyTok ER (cell c js.succ k) 0 false
    ∗ dutyTok ER (cell n jd.succ k) 0 false ∗ ckAny c src k)

/-- The place a send goes to, on device `n`. -/
def slot (jd : Fin 4) (n : Dev nD) (dst : Memref sig .tc .vmem S1024x1024 .bf16) : sProp 𝕄 :=
  iprop(ckAny n dst k ∗ reached ER (cell n jd.succ k) 0)

/-- A chunk of the result at some values, and at given ones. -/
def outAny (b : Bool) : sProp 𝕄 := iprop(∃ X, owns (c : Thread nD τ) (B.out.slice (outR c (b, k)) (by cases b <;> exact fun _ => rfl)) fullShare X)
def outAt (b : Bool) : sProp 𝕄 := owns (c : Thread nD τ) (B.out.slice (outR c (b, k)) (by cases b <;> exact fun _ => rfl)) fullShare (fun j => outV v c ((outR c (b, k)).emb j))

/-- The chunk of the mask. -/
def mskAt : sProp 𝕄 := owns (c : Thread nD τ) (B.msk.slice (maskR k) (fun _ => rfl)) qm (aV v c k)

/-- Before anything is sent, all of the device's own. -/
def fresh : sProp 𝕄 :=
  iprop(toSend c k 0 1 (xn c) B.bf ∗ pend c k 1 ∗ toSend c k 2 3 (yn c) B.yb ∗ pend c k 3
    ∗ outAny B c k true ∗ outAny B c k false ∗ mskAt B v c k qm)

/-- The places the two sends go to. -/
def slots : sProp 𝕄 := iprop(slot k 1 (xn c) B.xr ∗ slot k 3 (yn c) B.yr)

/-- The first send's semaphore to be waited on, with the half of the sent rows kept. -/
def sentX : sProp 𝕄 := iprop(pend c k 0 ∗ ck c B.bf k (fullShare : PosShare TreeShare).right (bV v c k))

/-- A receiving buffer's chunk done with: its semaphore at zero again. -/
def recvd (j : Fin 4) (m : Memref sig .tc .vmem S1024x1024 .bf16) : sProp 𝕄 := iprop(semVal (cell c j.succ k) 0 ∗ ckAny c m k)

/-- What the device holds of chunk `k` at a stage, the gather's part apart. -/
def own : ℕ → sProp 𝕄
  | 0 | 1 => iprop(fresh B v c k qm ∗ slots B c k)
  | 2 => iprop(sentX B v c k ∗ pend c k 1 ∗ toSend c k 2 3 (yn c) B.yb ∗ slot k 3 (yn c) B.yr ∗ pend c k 3
      ∗ outAny B c k true ∗ outAny B c k false ∗ mskAt B v c k qm)
  | 3 => iprop(sentX B v c k ∗ recvd c k 1 B.xr ∗ pend c k 2 ∗ pend c k 3
      ∗ outAt B v c k true ∗ outAny B c k false ∗ mskAt B v c k qm)
  | 4 => iprop(sentX B v c k ∗ recvd c k 1 B.xr ∗ pend c k 2 ∗ recvd c k 3 B.yr
      ∗ outAt B v c k true ∗ outAt B v c k false ∗ mskAt B v c k qm)
  | _ => iprop(recvd c k 0 B.bf ∗ recvd c k 1 B.xr ∗ recvd c k 2 B.yb ∗ recvd c k 3 B.yr
      ∗ outAt B v c k true ∗ outAt B v c k false ∗ mskAt B v c k qm)

/-- The gather's part. -/
def gat : ℕ → sProp 𝕄
  | 0 => gat0 B v c k
  | 1 => gat1 B v c k
  | _ => gat0 B v c k

/-! ## The two halves of an exchange -/

variable {defs : Defs nD τ sig (Elt F) Λ₀} (𝒱 : Variants)
variable {α : Type} {Q : α → sProp (MT nD τ sig Unit (Elt F) ℕ UU ℕ)}

/-- A send of chunk `k` pays the receiver with its buffer rewritten and the sender with the part of the source read under. -/
theorem send_run (js jd : Fin 4) (n : Dev nD) (hr : τ.routes (c : Thread nD τ) (n : Thread nD τ) = true)
    (src dst : Memref sig .tc .vmem S1024x1024 .bf16) (qs : PosShare TreeShare) (X : S64x1024.Idx → Elt F .bf16)
    (hps : (ck c src k qs X : sProp 𝕄) = dmaPay B v c k js.succ.val) (hpd : (ck n dst k fullShare X : sProp 𝕄) = dmaPay B v n k jd.succ.val)
    (O : CellTallies nD τ sig Unit) (O₀ : CellTallies nD τ sig Unit) (hO : O₀ = O + tallyAt (cell n jd.succ k) () N)
    {hsc : (dst.slice (chunkR k) (fun _ => rfl)).view.ref.isScScratch = false}
    {hsrc : (src.slice (chunkR k) (fun _ => rfl)).view.WordExact} {hdst : (dst.slice (chunkR k) (fun _ => rfl)).view.WordExact}
    {hsem : DmaTarget.Typed .vmem (.dma (dsem jd.succ k)) (.remote (n : Thread nD τ) (dst.slice (chunkR k) (fun _ => rfl)) (.dma (dsem js.succ k)) hsc)}
    (kk : PUnit → Prog (TpuEff nD τ sig (Elt F) Λ₀ .tc) α) :
    iprop(invs B v K ∗ ck c src k qs X ∗ slot k jd n dst ∗ (∃ W, owes (c : Thread nD τ) O₀ W)
        ∗ dutyTok ER (cell c js.succ k) 0 false ∗ reached ER (cell c js.succ k) 0 ∗ dutyTok ER (cell n jd.succ k) 0 false)
      ⊢ iprop((cred (tallyAt (cell c js.succ k) () N) -∗ (∃ W, owes (c : Thread nD τ) O W) -∗ wp frame (wpE defs 𝒱 (c : Thread nD τ) none) Set.univ (kk ⟨⟩) Q)
          -∗ wp frame (wpE defs 𝒱 (c : Thread nD τ) none) Set.univ
            (.op (.enqueueDma (src.slice (chunkR k) (fun _ => rfl)) (.remote (n : Thread nD τ) (dst.slice (chunkR k) (fun _ => rfl)) (.dma (dsem js.succ k)) hsc)
              (.dma (dsem jd.succ k)) hsrc hdst hsem) kk) Q) := by
  unfold slot ckAny
  iintro ⟨#Hinv, Hsrc, ⟨⟨%Y, Hdst⟩, #Hrd⟩, ⟨%W, HO⟩, Hts, #Hrs, Htd⟩ Hk
  ihave #HIs := (inv_cell B v K c js k) $$ Hinv
  ihave #HId := (inv_cell B v K n jd k) $$ Hinv
  icases (owns_unfold c (src.slice (chunkR k) (fun _ => rfl)) qs X) $$ Hsrc with ⟨%fs, %hfs, Hsrc⟩
  icases (owns_unfold n (dst.slice (chunkR k) (fun _ => rfl)) fullShare Y) $$ Hdst with ⟨%fd, %hfd, Hdst⟩
  have hs1 : 1 ≤ js.succ.val := Nat.succ_le_succ (Nat.zero_le _)
  have hd1 : 1 ≤ jd.succ.val := Nat.succ_le_succ (Nat.zero_le _)
  iapply (Rounds.wp_send_pointsTo 𝒱 ER (sched B v) (c : Thread nD τ) none (c' := (n : Thread nD τ)) (src := src.slice (chunkR k) (fun _ => rfl))
      (dst := dst.slice (chunkR k) (fun _ => rfl)) (sS := .dma (dsem js.succ k)) (sem := .dma (dsem jd.succ k)) (q := qs) (fs := fs) (fd := fd)
      (κ₁ := K (cell c js.succ k)) (κ₂ := K (cell n jd.succ k)) (r₁ := 0) (r₂ := 0) (d₁ := false) (d₂ := false)
      (by rw [duties_cell B v c k js.succ hs1]; exact Finset.mem_singleton_self _)
      (by rw [duties_cell B v n k jd.succ hd1]; exact Finset.mem_singleton_self _)
      () () N rfl rfl rfl O hO (W := W)
      (by rw [payload_cell, ← hps]; refine (owns_intro _ _ _ _).trans (Entails.of_eq ?_); rw [hfs])
      (by rw [payload_cell, ← hpd]; refine (owns_intro _ _ _ _).trans (Entails.of_eq ?_); rw [View.read_write_univ, hfs]) hr) $$ [Hsrc Hdst HO Hts Htd]
  · isplitr; · iexact HIs
    isplitr; · iexact HId
    isplitl [Hsrc]; · iexact Hsrc
    isplitl [Hdst]; · iexact Hdst
    isplitl [HO]; · iexact HO
    isplitl [Hts]; · iexact Hts
    isplitr; · iexact Hrs
    isplitl [Htd]; · iexact Htd
    iexact Hrd
  iintro ⟨Hc, HO⟩
  iapply Hk $$ Hc [HO]
  iexists W; iexact HO

theorem mayWait_none (sm : SemLoc sig) : (levAts L lv : sProp 𝕄) ⊢ MayWait (c : Thread nD τ) sm () 0 := by
  rw [MayWait_zero]; iintro -; iempintro

/-- A wait for the one round of a chunk's semaphore hands over its payment, and the counter at zero. -/
theorem recv_run (j : Fin 4) (src dst : Memref sig .tc .vmem S1024x1024 .bf16) (P : sProp 𝕄) (hP : dmaPay B v c k j.succ.val = P)
    (O : CellTallies nD τ sig Unit) (hM : (levAts L lv : sProp 𝕄) ⊢ MayWait (c : Thread nD τ) (.dma (dsem j.succ k)) () O)
    {hsrc : (src.slice (chunkR k) (fun _ => rfl)).view.WordExact} {hdst : (dst.slice (chunkR k) (fun _ => rfl)).view.WordExact}
    (kk : PUnit → Prog (TpuEff nD τ sig (Elt F) Λ₀ .tc) α) :
    iprop(invs B v K ∗ levAts L lv ∗ pend c k j ∗ (∃ W, owes (c : Thread nD τ) O W))
      ⊢ iprop((P -∗ semVal (cell c j.succ k) 0 -∗ (∃ W, owes (c : Thread nD τ) O W)
            -∗ wp frame (wpE defs 𝒱 (c : Thread nD τ) none) Set.univ (kk ⟨⟩) Q)
          -∗ wp frame (wpE defs 𝒱 (c : Thread nD τ) none) Set.univ
            (.op (.waitDma2 (dsem j.succ k) (src.slice (chunkR k) (fun _ => rfl)) (dst.slice (chunkR k) (fun _ => rfl)) hsrc hdst) kk) Q) := by
  have hj : 1 ≤ j.succ.val := Nat.succ_le_succ (Nat.zero_le _)
  unfold pend
  iintro ⟨#Hinv, #Hlev, ⟨Hat, Hc⟩, ⟨%W, HO⟩⟩ Hk
  ihave #HI := (inv_cell B v K c j k) $$ Hinv
  iapply (Rounds.wp_wait_rest_token 𝒱 ER (sched B v) (c : Thread nD τ) none (κ := K (cell c j.succ k))
      (wpE_waitDma2_eq (src := src.slice (chunkR k) (fun _ => rfl)) (dst := dst.slice (chunkR k) (fun _ => rfl)) 𝒱 (c : Thread nD τ) none Set.univ)
      (Set.mem_univ _) () (O := O) (W := W) (R := 0) (m := 0) (T := ∅)
      ((Nat.zero_add _).trans (expect_cell B v c k j.succ hj).symm)) $$ [Hc HO Hat]
  · isplitr; · iexact HI
    isplitl [Hc]; · iexact Hc
    isplitl [HO]; · iexact HO
    isplitr; · iapply hM; iexact Hlev
    iexact Hat
  iintro ⟨HO, Hat, -, Hpay⟩
  ihave Hp := (Entails.of_eq ((rest_cell B v c k j.succ hj).trans hP)) $$ Hpay
  imod (close B v K (cell c j.succ k)) $$ [Hat] with Hz
  · isplitr; · iexact HI
    iexact Hat
  iapply Hk $$ Hp Hz [HO]
  iexists _; iexact HO

/-! ## The steps -/

variable {q : PosShare TreeShare}

/-- Waiting for the gather of a chunk and sending it on: from stage 1 to stage 2. -/
theorem sendX_run (O : CellTallies nD τ sig Unit) (hM : (levAts L lv : sProp 𝕄) ⊢ MayWait (c : Thread nD τ) (.dma (dsem 0 k)) () (O + tallyAt (cell (xn c) 2 k) () N))
    (kk : Unit → Prog (TpuEff nD τ sig (Elt F) Λ₀ .tc) α) :
    iprop(invs B v K ∗ levAts L lv ∗ gat B v c k 1 ∗ own B v c k qm 1 ∗ ∃ W, owes (c : Thread nD τ) (O + tallyAt (cell (xn c) 2 k) () N) W)
      ⊢ iprop((gat B v c k 2 -∗ own B v c k qm 2 -∗ (∃ W, owes (c : Thread nD τ) O W) -∗ wp frame (wpE defs 𝒱 (c : Thread nD τ) none) Set.univ (kk ⟨⟩) Q)
          -∗ wp frame (wpE defs 𝒱 (c : Thread nD τ) none) Set.univ (wait64 B k >>= fun _ => sendX B c k >>= kk) Q) := by
  have hr : τ.routes (c : Thread nD τ) (xn c : Thread nD τ) = true := by routes
  rw [show own B v c k qm 1 = iprop(fresh B v c k qm ∗ slots B c k) from rfl]
  iintro ⟨#Hinv, #Hlev, Hg, Ho, HO⟩ Hk
  unfold gat own
  iapply (wait64_run B v c k 𝒱 none _ hM) $$ [Hg HO]
  · isplitl [Hg]; · iexact Hg
    isplitl [HO]; · iexact HO
    iexact Hlev
  iintro Hg HO
  unfold gat2 fresh slots toSend
  icases Hg with ⟨Hz, Hpart, Htab⟩
  icases Ho with ⟨⟨⟨Hat, #Hr, Hts, Htd, Hbf⟩, Hp1, Hy, Hp3, Hot, Hof, Hmsk⟩, Hsx, Hsy⟩
  unfold ckAny
  icases Hbf with ⟨%X, Hbf⟩
  unfold sendX
  simp only [bind_assoc, pure_bind, Prog.lift, Prog.bind_op, Prog.bind_ret]
  iapply (wp_load_owns 𝒱 (c : Thread nD τ) none (fun _ => rfl)) $$ Hpart
  iintro Hpart
  iapply (wp_load_owns 𝒱 (c : Thread nD τ) none (fun _ => rfl)) $$ Hbf
  iintro Hbf
  iapply (wp_store_owns 𝒱 (c : Thread nD τ) none (fun _ => rfl)) $$ Hbf
  iintro Hbf
  icases (owns_halves (c : Thread nD τ) _ _ _) $$ Hbf with ⟨Hl, Hrt⟩
  iapply (send_run B v K c k 𝒱 0 1 (xn c) hr B.bf B.xr (fullShare : PosShare TreeShare).left (bV v c k) rfl (by
    show (ck (xn c) B.xr k fullShare (bV v c k) : sProp 𝕄) = ck (xn c) B.xr k fullShare (bV v (xn (xn c)) k); rw [xn_xn]) O _ rfl) $$ [Hl Hsx HO Hts Htd]
  · isplitr; · iexact Hinv
    isplitl [Hl]; · iexact Hl
    isplitl [Hsx]; · iexact Hsx
    isplitl [HO]; · iexact HO
    isplitl [Hts]; · iexact Hts
    isplitr; · iexact Hr
    iexact Htd
  iintro Hc HO
  iapply Hk $$ [Hz Hpart Htab] [Hat Hc Hrt Hp1 Hy Hsy Hp3 Hot Hof Hmsk] HO
  · unfold gat0 ckAny
    isplitl [Hz]; · iexact Hz
    isplitl [Hpart]; · iexists _; iexact Hpart
    iexact Htab
  unfold sentX pend
  isplitl [Hat Hc Hrt]
  · isplitl [Hat Hc]
    · isplitl [Hat]; · iexact Hat
      iexact Hc
    iexact Hrt
  isplitl [Hp1]; · iexact Hp1
  isplitl [Hy]; · iexact Hy
  isplitl [Hsy]; · iexact Hsy
  isplitl [Hp3]; · iexact Hp3
  isplitl [Hot]; · iexact Hot
  isplitl [Hof]; · iexact Hof
  iexact Hmsk

/-- Taking in the first exchange's arrival, merging, and sending the merged rows on: from stage 2 to stage 3. -/
theorem merge_run (O : CellTallies nD τ sig Unit) (hM : (levAts L lv : sProp 𝕄) ⊢ MayWait (c : Thread nD τ) (.dma (dsem 2 k)) () (O + tallyAt (cell (yn c) 4 k) () N))
    (kk : Unit → Prog (TpuEff nD τ sig (Elt F) Λ₀ .tc) α) :
    iprop(invs B v K ∗ levAts L lv ∗ own B v c k qm 2 ∗ ∃ W, owes (c : Thread nD τ) (O + tallyAt (cell (yn c) 4 k) () N) W)
      ⊢ iprop((own B v c k qm 3 -∗ (∃ W, owes (c : Thread nD τ) O W) -∗ wp frame (wpE defs 𝒱 (c : Thread nD τ) none) Set.univ (kk ⟨⟩) Q)
          -∗ wp frame (wpE defs 𝒱 (c : Thread nD τ) none) Set.univ (merge B c k >>= kk) Q) := by
  have hr : τ.routes (c : Thread nD τ) (yn c : Thread nD τ) = true := by routes
  iintro ⟨#Hinv, #Hlev, Ho, HO⟩ Hk
  unfold own merge sentX toSend outAny mskAt
  simp only [bind_assoc, pure_bind, Prog.lift, Prog.bind_op, Prog.bind_ret]
  icases Ho with ⟨⟨Hp0, Hbf⟩, Hp1, ⟨Hat, #Hr, Hts, Htd, Hyb⟩, Hsy, Hp3, ⟨%Z, Hot⟩, Hof, Hmsk⟩
  iapply (recv_run B v K c k 𝒱 1 B.bf B.xr (ck c B.xr k fullShare (bV v (xn c) k)) rfl _ hM) $$ [Hp1 HO]
  · isplitr; · iexact Hinv
    isplitr; · iexact Hlev
    isplitl [Hp1]; · iexact Hp1
    iexact HO
  iintro Hxr Hz HO
  unfold ckAny
  icases Hyb with ⟨%Y, Hyb⟩
  iapply (wp_load_owns 𝒱 (c : Thread nD τ) none (fun _ => rfl)) $$ Hmsk
  iintro Hmsk
  iapply (wp_load_owns 𝒱 (c : Thread nD τ) none (fun _ => rfl)) $$ Hbf
  iintro Hbf
  iapply (wp_load_owns 𝒱 (c : Thread nD τ) none (X := bV v (xn c) k) (q := fullShare) (fun _ => rfl)) $$ Hxr
  iintro Hxr
  iapply (wp_load_owns 𝒱 (c : Thread nD τ) none (fun _ => rfl)) $$ Hyb
  iintro Hyb
  iapply (wp_store_owns 𝒱 (c : Thread nD τ) none (fun _ => rfl)) $$ Hyb
  iintro Hyb
  iapply (wp_load_owns 𝒱 (c : Thread nD τ) none (r := outR c (true, k)) (fun _ => rfl)) $$ Hot
  iintro Hot
  iapply (wp_store_owns 𝒱 (c : Thread nD τ) none (r := outR c (true, k)) (fun _ => rfl)) $$ Hot
  iintro Hot
  iapply (send_run B v K c k 𝒱 2 3 (yn c) hr B.yb B.yr fullShare (mV v c k) rfl (by
    show (ck (yn c) B.yr k fullShare (mV v c k) : sProp 𝕄) = ck (yn c) B.yr k fullShare (mV v (yn (yn c)) k); rw [yn_yn]) O _ rfl) $$ [Hyb Hsy HO Hts Htd]
  · isplitr; · iexact Hinv
    isplitl [Hyb]; · iexact Hyb
    isplitl [Hsy]; · iexact Hsy
    isplitl [HO]; · iexact HO
    isplitl [Hts]; · iexact Hts
    isplitr; · iexact Hr
    iexact Htd
  iintro Hc HO
  iapply Hk $$ [Hp0 Hbf Hxr Hz Hat Hc Hp3 Hot Hof Hmsk] HO
  unfold recvd pend outAt ckAny
  rw [outV_own]
  isplitl [Hp0 Hbf]
  · isplitl [Hp0]; · iexact Hp0
    iexact Hbf
  isplitl [Hz Hxr]
  · isplitl [Hz]; · iexact Hz
    iexists _; iexact Hxr
  isplitl [Hat Hc]
  · isplitl [Hat]; · iexact Hat
    iexact Hc
  isplitl [Hp3]; · iexact Hp3
  isplitl [Hot]; · iexact Hot
  isplitl [Hof]; · iexact Hof
  iexact Hmsk

/-- Taking in the second exchange's arrival: from stage 3 to stage 4. -/
theorem collect_run (kk : Unit → Prog (TpuEff nD τ sig (Elt F) Λ₀ .tc) α) :
    iprop(invs B v K ∗ levAts L lv ∗ own B v c k qm 3 ∗ ∃ W, owes (c : Thread nD τ) (0 : CellTallies nD τ sig Unit) W)
      ⊢ iprop((own B v c k qm 4 -∗ (∃ W, owes (c : Thread nD τ) (0 : CellTallies nD τ sig Unit) W) -∗ wp frame (wpE defs 𝒱 (c : Thread nD τ) none) Set.univ (kk ⟨⟩) Q)
          -∗ wp frame (wpE defs 𝒱 (c : Thread nD τ) none) Set.univ (collect B c k ⟨⟩ >>= kk) Q) := by
  iintro ⟨#Hinv, #Hlev, Ho, HO⟩ Hk
  unfold own collect outAny
  simp only [bind_assoc, pure_bind, Prog.lift, Prog.bind_op, Prog.bind_ret]
  icases Ho with ⟨Hsx, Hx, Hp2, Hp3, Hot, ⟨%Z, Hof⟩, Hmsk⟩
  iapply (recv_run B v K c k 𝒱 3 B.yb B.yr (ck c B.yr k fullShare (mV v (yn c) k)) rfl _ (mayWait_none c _)) $$ [Hp3 HO]
  · isplitr; · iexact Hinv
    isplitr; · iexact Hlev
    isplitl [Hp3]; · iexact Hp3
    iexact HO
  iintro Hyr Hz HO
  iapply (wp_load_owns 𝒱 (c : Thread nD τ) none (X := mV v (yn c) k) (q := fullShare) (fun _ => rfl)) $$ Hyr
  iintro Hyr
  iapply (wp_load_owns 𝒱 (c : Thread nD τ) none (r := outR c (false, k)) (fun _ => rfl)) $$ Hof
  iintro Hof
  iapply (wp_store_owns 𝒱 (c : Thread nD τ) none (r := outR c (false, k)) (fun _ => rfl)) $$ Hof
  iintro Hof
  iapply Hk $$ [Hsx Hx Hp2 Hyr Hz Hot Hof Hmsk] HO
  isplitl [Hsx]; · iexact Hsx
  isplitl [Hx]; · iexact Hx
  isplitl [Hp2]; · iexact Hp2
  isplitl [Hz Hyr]
  · unfold recvd ckAny
    isplitl [Hz]; · iexact Hz
    iexists _; iexact Hyr
  isplitl [Hot]; · iexact Hot
  isplitl [Hof]
  · unfold outAt; rw [outV_oth]; iexact Hof
  iexact Hmsk

/-- Waiting for the two sends to have been read: from stage 4 to stage 5. -/
theorem sent_run (kk : Unit → Prog (TpuEff nD τ sig (Elt F) Λ₀ .tc) α) :
    iprop(invs B v K ∗ levAts L lv ∗ own B v c k qm 4 ∗ ∃ W, owes (c : Thread nD τ) (0 : CellTallies nD τ sig Unit) W)
      ⊢ iprop((own B v c k qm 5 -∗ (∃ W, owes (c : Thread nD τ) (0 : CellTallies nD τ sig Unit) W) -∗ wp frame (wpE defs 𝒱 (c : Thread nD τ) none) Set.univ (kk ⟨⟩) Q)
          -∗ wp frame (wpE defs 𝒱 (c : Thread nD τ) none) Set.univ (sent B k ⟨⟩ >>= kk) Q) := by
  iintro ⟨#Hinv, #Hlev, Ho, HO⟩ Hk
  unfold own sent sentX
  simp only [bind_assoc, pure_bind, Prog.lift, Prog.bind_op, Prog.bind_ret]
  icases Ho with ⟨⟨Hp0, Hbr⟩, Hx, Hp2, Hy, Hot, Hof, Hmsk⟩
  iapply (recv_run B v K c k 𝒱 0 B.xr B.bf (ck c B.bf k (fullShare : PosShare TreeShare).left (bV v c k)) rfl _ (mayWait_none c _)) $$ [Hp0 HO]
  · isplitr; · iexact Hinv
    isplitr; · iexact Hlev
    isplitl [Hp0]; · iexact Hp0
    iexact HO
  iintro Hbl Hz0 HO
  iapply (recv_run B v K c k 𝒱 2 B.yr B.yb (ck c B.yb k fullShare (mV v c k)) rfl _ (mayWait_none c _)) $$ [Hp2 HO]
  · isplitr; · iexact Hinv
    isplitr; · iexact Hlev
    isplitl [Hp2]; · iexact Hp2
    iexact HO
  iintro Hyb Hz2 HO
  iapply Hk $$ [Hz0 Hbl Hbr Hx Hz2 Hyb Hy Hot Hof Hmsk] HO
  isplitl [Hz0 Hbl Hbr]
  · unfold recvd ckAny
    isplitl [Hz0]; · iexact Hz0
    iexists _
    iapply (owns_whole_of_halves (c : Thread nD τ) (B.bf.slice (chunkR k) (fun _ => rfl)) fullShare (bV v c k))
    isplitl [Hbl]; · iexact Hbl
    iexact Hbr
  isplitl [Hx]; · iexact Hx
  isplitl [Hz2 Hyb]
  · unfold recvd ckAny
    isplitl [Hz2]; · iexact Hz2
    iexists _; iexact Hyb
  isplitl [Hy]; · iexact Hy
  isplitl [Hot]; · iexact Hot
  isplitl [Hof]; · iexact Hof
  iexact Hmsk

end Cert.KernelIdeal.Run

end
-- ==== Proof.Run.lean ====
module

public import proofs.«01_k».proof.Proof.Steps

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

/-! # The body's run on a device

The sixteen chunks move through their stages one step at a time; each step takes one chunk's holdings out, moves them on
and puts them back. -/

variable {F : FTy → Type} [FloatOps F]

local notation "𝕄" => MT nD τ sig Unit (Elt F) ℕ UU ℕ

variable (B : Bufs) (v : Inp F) (K : GSem nD τ sig → ℕ) (c : Dev nD) (qm : PosShare TreeShare)

/-- The gathers' holdings with the chunks at the stages `st`, -/
def gats (st : Fin 16 → ℕ) : sProp 𝕄 := bigSep Finset.univ fun k => gat B v c k (st k)
/-- and the rest of the chunks', with what is still owed. -/
def owns16 (st : Fin 16 → ℕ) : sProp 𝕄 := bigSep Finset.univ fun k => own B v c k qm (st k)
def chunks (st : Fin 16 → ℕ) : sProp 𝕄 :=
  iprop(gats B v c st ∗ owns16 B v c qm st ∗ ∃ W, owes (c : Thread nD τ) (owed c st) W)

/-- One chunk's part out, and back at another stage. -/
theorem gats_turn (st : Fin 16 → ℕ) (k : Fin 16) :
    gats B v c st ⊢ (iprop(gat B v c k (st k) ∗ ∀ s, gat B v c k s -∗ gats B v c (Function.update st k s)) : sProp 𝕄) :=
  bigSep_univ_turn (fun k s => gat B v c k s) st k
theorem owns16_turn (st : Fin 16 → ℕ) (k : Fin 16) :
    owns16 B v c qm st ⊢ (iprop(own B v c k qm (st k) ∗ ∀ s, own B v c k qm s -∗ owns16 B v c qm (Function.update st k s)) : sProp 𝕄) :=
  bigSep_univ_turn (fun k s => own B v c k qm s) st k

variable {defs : Defs nD τ sig (Elt F) Λ₀} (𝒱 : Variants)
variable {α : Type} {Q : α → sProp (MT nD τ sig Unit (Elt F) ℕ UU ℕ)} {q : PosShare TreeShare}

/-- Starting a chunk's gather. -/
theorem issue_step (st : Fin 16 → ℕ) (k : Fin 16) (hk : st k = 0) (kk : Unit → Prog (TpuEff nD τ sig (Elt F) Λ₀ .tc) α) :
    iprop(gats B v c st ∗ owns (c : Thread nD τ) B.ids q (v.ids c))
      ⊢ iprop((gats B v c (Function.update st k 1) -∗ owns (c : Thread nD τ) B.ids q (v.ids c)
            -∗ wp frame (wpE defs 𝒱 (c : Thread nD τ) none) Set.univ (kk ⟨⟩) Q)
          -∗ wp frame (wpE defs 𝒱 (c : Thread nD τ) none) Set.univ (issue B k >>= kk) Q) := by
  have hg := gats_turn B v c st k
  have h1 : gat1 B v c k ⊢ (gat B v c k 1 : sProp 𝕄) := by rw [show (gat B v c k 1 : sProp 𝕄) = gat1 B v c k from rfl]
  rw [hk, show (gat B v c k 0 : sProp 𝕄) = gat0 B v c k from rfl] at hg
  iintro ⟨Hg, Hids⟩ Hk
  icases hg $$ Hg with ⟨Hg, Hback⟩
  iapply (issue_run B v c k 𝒱 none) $$ [Hg Hids]
  · isplitl [Hg]; · iexact Hg
    iexact Hids
  iintro Hg Hids
  iapply Hk $$ [Hback Hg] Hids
  iapply Hback $$ %1; iapply h1; iexact Hg

/-- Before it is sent, a chunk's holdings but the gather's do not change. -/
theorem owns16_issue (st : Fin 16 → ℕ) (k : Fin 16) (hk : st k = 0) :
    (owns16 B v c qm (Function.update st k 1) : sProp 𝕄) = owns16 B v c qm st := by
  unfold owns16
  refine bigSep_congr fun j _ => ?_
  by_cases h : j = k
  · subst h; rw [Function.update_self, hk]; rfl
  · rw [Function.update_of_ne h]

/-- Nor does what is owed. -/
theorem owed_issue (st : Fin 16 → ℕ) (k : Fin 16) (hk : st k = 0) : owed c (Function.update st k 1) = owed c st := by
  rw [owed_update c st k 1 0 (by rw [hk]; exact owedAt_issue c k), add_zero]

/-- Waiting for a chunk's gather and sending the chunk on. -/
theorem sendX_step (st : Fin 16 → ℕ) (k : Fin 16) (hk : st k = 1) (kk : Unit → Prog (TpuEff nD τ sig (Elt F) Λ₀ .tc) α) :
    iprop(invs B v K ∗ levAts L lv ∗ chunks B v c qm st)
      ⊢ iprop((chunks B v c qm (Function.update st k 2) -∗ wp frame (wpE defs 𝒱 (c : Thread nD τ) none) Set.univ (kk ⟨⟩) Q)
          -∗ wp frame (wpE defs 𝒱 (c : Thread nD τ) none) Set.univ (wait64 B k >>= fun _ => sendX B c k >>= kk) Q) := by
  have hg := gats_turn B v c st k
  have ho := owns16_turn B v c qm st k
  have he := owed_update c st k 2 (tallyAt (cell (xn c) 2 k) () N) (by rw [hk]; exact owedAt_sendX c k)
  have hM := mayWait_owed (F := F) c (.dma (dsem 0 k)) 0 (Nat.le_of_eq (lv_gather c k)) (by decide) st (fun _ _ => by omega)
  rw [hk] at hg ho
  rw [he] at hM
  unfold chunks
  rw [he]
  iintro ⟨#Hinv, #Hlev, Hg, Ho, HO⟩ Hk
  icases hg $$ Hg with ⟨Hg, Hgb⟩
  icases ho $$ Ho with ⟨Ho, Hob⟩
  iapply (sendX_run B v K c k qm 𝒱 _ hM) $$ [Hg Ho HO]
  · isplitr; · iexact Hinv
    isplitr; · iexact Hlev
    isplitl [Hg]; · iexact Hg
    isplitl [Ho]; · iexact Ho
    iexact HO
  iintro Hg Ho HO
  iapply Hk
  isplitl [Hgb Hg]; · iapply Hgb $$ %2; iexact Hg
  isplitl [Hob Ho]; · iapply Hob $$ %2; iexact Ho
  iexact HO

/-- Merging a chunk and sending it on: every chunk not yet sent across the table's cut comes after it. -/
theorem merge_step (st : Fin 16 → ℕ) (k : Fin 16) (hk : st k = 2) (hlt : ∀ j, st j < 2 → k.val < j.val)
    (kk : Unit → Prog (TpuEff nD τ sig (Elt F) Λ₀ .tc) α) :
    iprop(invs B v K ∗ levAts L lv ∗ chunks B v c qm st)
      ⊢ iprop((chunks B v c qm (Function.update st k 3) -∗ wp frame (wpE defs 𝒱 (c : Thread nD τ) none) Set.univ (kk ⟨⟩) Q)
          -∗ wp frame (wpE defs 𝒱 (c : Thread nD τ) none) Set.univ (merge B c k >>= kk) Q) := by
  have hg := gats_turn B v c st k
  have ho := owns16_turn B v c qm st k
  have he := owed_update c st k 3 (tallyAt (cell (yn c) 4 k) () N) (by rw [hk]; exact owedAt_merge c k)
  have hM := mayWait_owed (F := F) c (.dma (dsem 2 k)) (2 + k.val) (Nat.le_of_eq (lv_x c k)) (by have := k.isLt; omega) st
    (fun j hj => by have := hlt j hj; omega)
  rw [hk] at hg ho
  rw [he] at hM
  unfold chunks
  rw [he]
  iintro ⟨#Hinv, #Hlev, Hg, Ho, HO⟩ Hk
  icases hg $$ Hg with ⟨Hg, Hgb⟩
  icases ho $$ Ho with ⟨Ho, Hob⟩
  iapply (merge_run B v K c k qm 𝒱 _ hM) $$ [Ho HO]
  · isplitr; · iexact Hinv
    isplitr; · iexact Hlev
    isplitl [Ho]; · iexact Ho
    iexact HO
  iintro Ho HO
  iapply Hk
  isplitl [Hgb Hg]; · iapply Hgb $$ %3; iexact Hg
  isplitl [Hob Ho]; · iapply Hob $$ %3; iexact Ho
  iexact HO

/-- Once every chunk is merged nothing is owed; a last step then moves one chunk on. -/
theorem last_step (p : Prog (TpuEff nD τ sig (Elt F) Λ₀ .tc) Unit) (st : Fin 16 → ℕ) (k : Fin 16) (s : ℕ) (hst : ∀ j, 3 ≤ st j) (hs : 3 ≤ s)
    (hrun : ∀ Q' : Unit → sProp 𝕄, iprop(invs B v K ∗ levAts L lv ∗ own B v c k qm (st k) ∗ ∃ W, owes (c : Thread nD τ) (0 : CellTallies nD τ sig Unit) W)
      ⊢ iprop((own B v c k qm s -∗ (∃ W, owes (c : Thread nD τ) (0 : CellTallies nD τ sig Unit) W)
            -∗ wp frame (wpE defs 𝒱 (c : Thread nD τ) none) Set.univ (.ret ⟨⟩) Q')
          -∗ wp frame (wpE defs 𝒱 (c : Thread nD τ) none) Set.univ p Q')) :
    iprop(invs B v K ∗ levAts L lv ∗ chunks B v c qm st)
      ⊢ wp frame (wpE defs 𝒱 (c : Thread nD τ) none) Set.univ p
          (fun _ => iprop(invs B v K ∗ levAts L lv ∗ chunks B v c qm (Function.update st k s))) := by
  have hg := gats_turn B v c st k
  have ho := owns16_turn B v c qm st k
  have hgs : (gat B v c k (st k) : sProp 𝕄) = gat B v c k s := by
    have h1 := hst k
    obtain ⟨a, ha⟩ : ∃ a, st k = a + 3 := ⟨st k - 3, by omega⟩
    obtain ⟨b, hb⟩ : ∃ b, s = b + 3 := ⟨s - 3, by omega⟩
    rw [ha, hb]; rfl
  rw [hgs] at hg
  unfold chunks
  rw [owed_done c st hst, owed_done c (Function.update st k s) (fun j => by
    by_cases h : j = k
    · subst h; rw [Function.update_self]; exact hs
    · rw [Function.update_of_ne h]; exact hst j)]
  iintro ⟨#Hinv, #Hlev, Hg, Ho, HO⟩
  icases hg $$ Hg with ⟨Hg, Hgb⟩
  icases ho $$ Ho with ⟨Ho, Hob⟩
  iapply (hrun _) $$ [Ho HO]
  · isplitr; · iexact Hinv
    isplitr; · iexact Hlev
    isplitl [Ho]; · iexact Ho
    iexact HO
  iintro Ho HO
  rw [wp_ret]
  imodintro
  isplitr; · iexact Hinv
  isplitr; · iexact Hlev
  isplitl [Hgb Hg]; · iapply Hgb $$ %s; iexact Hg
  isplitl [Hob Ho]; · iapply Hob $$ %s; iexact Ho
  iexact HO

/-! ## The turns of the pipeline -/

/-- The stages before turn `i`, -/
def stT (i : ℕ) (j : Fin 16) : ℕ := if j.val + 3 < i then 3 else if j.val < i then 2 else if j.val < i + 3 then 1 else 0
/-- once the chunk three on is started, -/
def stA (i : ℕ) (j : Fin 16) : ℕ := if j.val + 3 < i then 3 else if j.val < i then 2 else if j.val < i + 4 then 1 else 0
/-- and once the chunk three back is merged. -/
def stB (i : ℕ) (j : Fin 16) : ℕ := if j.val + 3 < i + 1 then 3 else if j.val < i then 2 else if j.val < i + 4 then 1 else 0

theorem stT_issue (i : ℕ) (h : i + 3 < 16) : Function.update (stT i) ⟨i + 3, h⟩ 1 = stA i := by
  funext j
  rw [Function.update_apply]
  unfold stT stA
  by_cases e : j = ⟨i + 3, h⟩
  · have : j.val = i + 3 := congrArg Fin.val e
    rw [if_pos e]; split_ifs <;> first | rfl | omega
  · have : j.val ≠ i + 3 := fun h' => e (Fin.ext h')
    rw [if_neg e]; split_ifs <;> first | rfl | omega
theorem stT_full (i : ℕ) (h : ¬ i + 3 < 16) : stT i = stA i := by
  funext j
  have := j.isLt
  unfold stT stA; split_ifs <;> first | rfl | omega
theorem stA_merge (i : ℕ) (h : 3 ≤ i) (h' : i - 3 < 16) : Function.update (stA i) ⟨i - 3, h'⟩ 3 = stB i := by
  funext j
  rw [Function.update_apply]
  unfold stA stB
  by_cases e : j = ⟨i - 3, h'⟩
  · have : j.val = i - 3 := congrArg Fin.val e
    rw [if_pos e]; split_ifs <;> first | rfl | omega
  · have : j.val ≠ i - 3 := fun h' => e (Fin.ext h')
    rw [if_neg e]; split_ifs <;> first | rfl | omega
theorem stA_early (i : ℕ) (h : ¬ 3 ≤ i) : stA i = stB i := by
  funext j
  unfold stA stB; split_ifs <;> first | rfl | omega
theorem stB_send (i : ℕ) (h : i < 16) : Function.update (stB i) ⟨i, h⟩ 2 = stT (i + 1) := by
  funext j
  rw [Function.update_apply]
  unfold stB stT
  by_cases e : j = ⟨i, h⟩
  · have : j.val = i := congrArg Fin.val e
    rw [if_pos e]; split_ifs <;> first | rfl | omega
  · have : j.val ≠ i := fun h' => e (Fin.ext h')
    rw [if_neg e]; split_ifs <;> first | rfl | omega

/-- What every step but the last ones keeps at hand. -/
def hand (st : Fin 16 → ℕ) : sProp 𝕄 :=
  iprop(invs B v K ∗ levAts L lv ∗ chunks B v c qm st ∗ owns (c : Thread nD τ) B.ids q (v.ids c))

/-- Waiting for a chunk's gather and sending it on, in a turn. -/
theorem turn_send (i : Fin 16) (rest : Prog (TpuEff nD τ sig (Elt F) Λ₀ .tc) Unit) {Q : Unit → sProp 𝕄}
    (hrest : hand B v K c qm (q := q) (stT (i.val + 1)) ⊢ wp frame (wpE defs 𝒱 (c : Thread nD τ) none) Set.univ rest Q) :
    hand B v K c qm (q := q) (stB i.val) ⊢ wp frame (wpE defs 𝒱 (c : Thread nD τ) none) Set.univ (wait64 B i >>= fun _ => sendX B c i >>= fun _ => rest) Q := by
  unfold hand at hrest ⊢
  iintro ⟨#Hinv, #Hlev, Hch, Hids⟩
  iapply (sendX_step B v K c qm 𝒱 (stB i.val) i (by unfold stB; split_ifs <;> omega) (fun _ => rest)) $$ [Hch]
  · isplitr; · iexact Hinv
    isplitr; · iexact Hlev
    iexact Hch
  iintro Hch
  iapply hrest
  rw [stB_send i.val i.isLt]
  isplitr; · iexact Hinv
  isplitr; · iexact Hlev
  isplitl [Hch]; · iexact Hch
  iexact Hids

/-- Merging the chunk three back, in a turn. -/
theorem turn_merge (i : ℕ) (h : 3 ≤ i) (h' : i - 3 < 16) (rest : Prog (TpuEff nD τ sig (Elt F) Λ₀ .tc) Unit) {Q : Unit → sProp 𝕄}
    (hrest : hand B v K c qm (q := q) (stB i) ⊢ wp frame (wpE defs 𝒱 (c : Thread nD τ) none) Set.univ rest Q) :
    hand B v K c qm (q := q) (stA i) ⊢ wp frame (wpE defs 𝒱 (c : Thread nD τ) none) Set.univ (merge B c ⟨i - 3, h'⟩ >>= fun _ => rest) Q := by
  unfold hand at hrest ⊢
  iintro ⟨#Hinv, #Hlev, Hch, Hids⟩
  iapply (merge_step B v K c qm 𝒱 (stA i) ⟨i - 3, h'⟩ (by unfold stA; dsimp only; split_ifs <;> omega)
    (by intro j; unfold stA; dsimp only; split_ifs <;> omega) (fun _ => rest)) $$ [Hch]
  · isplitr; · iexact Hinv
    isplitr; · iexact Hlev
    iexact Hch
  iintro Hch
  iapply hrest
  rw [stA_merge i h h']
  isplitr; · iexact Hinv
  isplitr; · iexact Hlev
  isplitl [Hch]; · iexact Hch
  iexact Hids

/-- Starting the gather of the chunk three on, in a turn. -/
theorem turn_issue (i : ℕ) (h : i + 3 < 16) (rest : Prog (TpuEff nD τ sig (Elt F) Λ₀ .tc) Unit) {Q : Unit → sProp 𝕄}
    (hrest : hand B v K c qm (q := q) (stA i) ⊢ wp frame (wpE defs 𝒱 (c : Thread nD τ) none) Set.univ rest Q) :
    hand B v K c qm (q := q) (stT i) ⊢ wp frame (wpE defs 𝒱 (c : Thread nD τ) none) Set.univ (issue B ⟨i + 3, h⟩ >>= fun _ => rest) Q := by
  have h0 : stT i ⟨i + 3, h⟩ = 0 := by unfold stT; dsimp only; split_ifs <;> omega
  rw [← stT_issue i h] at hrest
  unfold hand chunks at hrest ⊢
  rw [owns16_issue B v c qm (stT i) _ h0, owed_issue c (stT i) _ h0] at hrest
  iintro ⟨#Hinv, #Hlev, ⟨Hg, Hrest⟩, Hids⟩
  iapply (issue_step B v c 𝒱 (stT i) ⟨i + 3, h⟩ h0 (fun _ => rest)) $$ [Hg Hids]
  · isplitl [Hg]; · iexact Hg
    iexact Hids
  iintro Hg Hids
  iapply hrest
  isplitr; · iexact Hinv
  isplitr; · iexact Hlev
  isplitl [Hg Hrest]
  · isplitl [Hg]; · iexact Hg
    iexact Hrest
  iexact Hids

/-- A turn. -/
theorem turn_run (i : Fin 16) (rest : Prog (TpuEff nD τ sig (Elt F) Λ₀ .tc) Unit) {Q : Unit → sProp 𝕄}
    (hrest : hand B v K c qm (q := q) (stT (i.val + 1)) ⊢ wp frame (wpE defs 𝒱 (c : Thread nD τ) none) Set.univ rest Q) :
    hand B v K c qm (q := q) (stT i.val) ⊢ wp frame (wpE defs 𝒱 (c : Thread nD τ) none) Set.univ (turn B c i rest) Q := by
  have h1 := turn_send B v K c qm 𝒱 i rest hrest
  have h2 : hand B v K c qm (q := q) (stA i.val) ⊢ wp frame (wpE defs 𝒱 (c : Thread nD τ) none) Set.univ
      (if h : 3 ≤ i.val then merge B c ⟨i.val - 3, by omega⟩ >>= fun _ => wait64 B i >>= fun _ => sendX B c i >>= fun _ => rest
        else wait64 B i >>= fun _ => sendX B c i >>= fun _ => rest) Q := by
    by_cases h : 3 ≤ i.val
    · rw [dif_pos h]; exact turn_merge B v K c qm 𝒱 i.val h (by omega) _ h1
    · rw [dif_neg h, stA_early i.val h]; exact h1
  unfold turn
  dsimp only
  by_cases h : i.val + 3 < 16
  · rw [dif_pos h]; exact turn_issue B v K c qm 𝒱 i.val h _ h2
  · rw [dif_neg h, stT_full i.val h]; exact h2

/-- All the turns from one on. -/
theorem turns_run (rest : Prog (TpuEff nD τ sig (Elt F) Λ₀ .tc) Unit) {Q : Unit → sProp 𝕄}
    (hrest : hand B v K c qm (q := q) (stT 16) ⊢ wp frame (wpE defs 𝒱 (c : Thread nD τ) none) Set.univ rest Q) (n : ℕ) :
    n ≤ 16 → hand B v K c qm (q := q) (stT (16 - n))
      ⊢ wp frame (wpE defs 𝒱 (c : Thread nD τ) none) Set.univ (((List.finRange 16).drop (16 - n)).foldr (turn B c) rest) Q := by
  induction n with
  | zero => intro _; rw [List.drop_of_length_le (by simp)]; exact hrest
  | succ n ih =>
    intro hn
    have ih := ih (by omega)
    rw [List.drop_eq_getElem_cons (by simp; omega), List.foldr_cons, show 16 - (n + 1) + 1 = 16 - n by omega]
    have e : (List.finRange 16)[16 - (n + 1)]'(by simp; omega) = (⟨16 - (n + 1), by omega⟩ : Fin 16) := by
      simp
    rw [e]
    refine turn_run B v K c qm 𝒱 ⟨16 - (n + 1), by omega⟩ _ ?_
    show hand B v K c qm (q := q) (stT (16 - (n + 1) + 1)) ⊢ _
    rw [show 16 - (n + 1) + 1 = 16 - n by omega]
    exact ih

/-! ## After the turns -/

/-- The stages after `i` of the arrivals are taken in, -/
def stC (i : ℕ) (j : Fin 16) : ℕ := if j.val < i then 4 else 3
/-- and after the sends of `i` chunks are read. -/
def stD (i : ℕ) (j : Fin 16) : ℕ := if j.val < i then 5 else 4

theorem stC_next (i : Fin 16) : Function.update (stC i.val) i 4 = stC (i.val + 1) := by
  funext j
  rw [Function.update_apply]
  unfold stC
  by_cases e : j = i
  · subst e; rw [if_pos rfl, if_pos (by omega)]
  · have : j.val ≠ i.val := fun h' => e (Fin.ext h')
    rw [if_neg e]; split_ifs <;> first | rfl | omega
theorem stD_next (i : Fin 16) : Function.update (stD i.val) i 5 = stD (i.val + 1) := by
  funext j
  rw [Function.update_apply]
  unfold stD
  by_cases e : j = i
  · subst e; rw [if_pos rfl, if_pos (by omega)]
  · have : j.val ≠ i.val := fun h' => e (Fin.ext h')
    rw [if_neg e]; split_ifs <;> first | rfl | omega
theorem stC_stD : stC 16 = stD 0 := by
  funext j; unfold stC stD; rw [if_pos j.isLt, if_neg (Nat.not_lt_zero _)]
theorem stT_merged : Function.update (Function.update (Function.update (stT 16) 13 3) 14 3) 15 3 = stC 0 := by
  decide +kernel

theorem collect_trip (i : Fin 16) (acc : Unit) :
    iprop(invs B v K ∗ levAts L lv ∗ chunks B v c qm (stC i.val))
      ⊢ wp frame (wpE defs 𝒱 (c : Thread nD τ) none) Set.univ (collect B c i acc)
          (fun _ => iprop(invs B v K ∗ levAts L lv ∗ chunks B v c qm (stC (i.val + 1)))) := by
  rw [← stC_next i]
  refine last_step B v K c qm 𝒱 _ (stC i.val) i 4 (fun j => by unfold stC; split_ifs <;> omega) (by omega) fun Q' => ?_
  have h := collect_run B v K c i qm (defs := defs) 𝒱 (Q := Q') (fun _ => .ret ⟨⟩)
  rw [show collect (F := F) B c i ⟨⟩ >>= (fun _ => .ret ⟨⟩) = collect B c i ⟨⟩ from bind_pure _] at h
  rw [show stC i.val i = 3 from if_neg (Nat.lt_irrefl _)]
  exact h

theorem sent_trip (i : Fin 16) (acc : Unit) :
    iprop(invs B v K ∗ levAts L lv ∗ chunks B v c qm (stD i.val))
      ⊢ wp frame (wpE defs 𝒱 (c : Thread nD τ) none) Set.univ (sent B i acc)
          (fun _ => iprop(invs B v K ∗ levAts L lv ∗ chunks B v c qm (stD (i.val + 1)))) := by
  rw [← stD_next i]
  refine last_step B v K c qm 𝒱 _ (stD i.val) i 5 (fun j => by unfold stD; split_ifs <;> omega) (by omega) fun Q' => ?_
  have h := sent_run B v K c i qm (defs := defs) 𝒱 (Q := Q') (fun _ => .ret ⟨⟩)
  rw [show sent (F := F) B i ⟨⟩ >>= (fun _ => .ret ⟨⟩) = sent B i ⟨⟩ from bind_pure _] at h
  rw [show stD i.val i = 4 from if_neg (Nat.lt_irrefl _)]
  exact h

/-- What follows the turns brings every chunk to its last stage. -/
theorem tail_run :
    hand B v K c qm (q := q) (stT 16)
      ⊢ wp frame (wpE defs 𝒱 (c : Thread nD τ) none) Set.univ (tail B c)
          (fun _ => iprop(chunks B v c qm (stD 16) ∗ owns (c : Thread nD τ) B.ids q (v.ids c))) := by
  unfold hand tail
  iintro ⟨#Hinv, #Hlev, Hch, Hids⟩
  iapply (merge_step B v K c qm 𝒱 (stT 16) 13 (by decide) (by decide +kernel) _) $$ [Hch]
  · isplitr; · iexact Hinv
    isplitr; · iexact Hlev
    iexact Hch
  iintro Hch
  iapply (merge_step B v K c qm 𝒱 (Function.update (stT 16) 13 3) 14 (by decide) (by decide +kernel) _) $$ [Hch]
  · isplitr; · iexact Hinv
    isplitr; · iexact Hlev
    iexact Hch
  iintro Hch
  iapply (merge_step B v K c qm 𝒱 (Function.update (Function.update (stT 16) 13 3) 14 3) 15 (by decide) (by decide +kernel) _) $$ [Hch]
  · isplitr; · iexact Hinv
    isplitr; · iexact Hlev
    iexact Hch
  iintro Hch
  rw [stT_merged, wp_bind]
  iapply (Scf.wp_forFrom frame (wpE defs 𝒱 (c : Thread nD τ) none) Set.univ (collect B c)
    (fun i _ => iprop(invs B v K ∗ levAts L lv ∗ chunks B v c qm (stC i))) (collect_trip B v K c qm 𝒱) 0 (Nat.zero_le _) ⟨⟩) $$ [Hch Hids]
  isplitl [Hch]
  · isplitr; · iexact Hinv
    isplitr; · iexact Hlev
    iexact Hch
  iintro %_ ⟨-, -, Hch⟩
  rw [stC_stD]
  iapply (Scf.wp_forFrom frame (wpE defs 𝒱 (c : Thread nD τ) none) Set.univ (sent B)
    (fun i _ => iprop(invs B v K ∗ levAts L lv ∗ chunks B v c qm (stD i))) (sent_trip B v K c qm 𝒱) 0 (Nat.zero_le _) ⟨⟩) $$ [Hch Hids]
  isplitl [Hch]
  · isplitr; · iexact Hinv
    isplitr; · iexact Hlev
    iexact Hch
  iintro %_ ⟨-, -, Hch⟩
  isplitl [Hch]; · iexact Hch
  iexact Hids

/-! ## The whole body -/

/-- What a device owes at the start: its units on the two neighbours' barriers, and all its chunks' arrivals. -/
def owed₀ : CellTallies nD τ sig Unit :=
  owed c (fun _ => 0) + tallyAt (barCell (yn c)) () 1 + tallyAt (barCell (xn c)) () 1

/-- What a device brings to the body. -/
def bodyPre : sProp 𝕄 :=
  iprop(invs B v K ∗ levAts L lv ∗ owns (c : Thread nD τ) B.ids q (v.ids c)
    ∗ gats B v c (fun _ => 0) ∗ (bigSep Finset.univ fun k => fresh B v c k qm)
    ∗ (bigSep Finset.univ fun k => slot k 1 c B.xr) ∗ (bigSep Finset.univ fun k => slot k 3 c B.yr)
    ∗ atPos ER (barCell c) 0 ∅ 0 ∗ cred (tallyAt (barCell c) () 2)
    ∗ dutyTok ER (barCell (xn c)) 0 false ∗ reached ER (barCell (xn c)) 0
    ∗ dutyTok ER (barCell (yn c)) 0 true ∗ reached ER (barCell (yn c)) 0
    ∗ ∃ W, owes (c : Thread nD τ) (owed₀ c) W)

/-- And what it has after. -/
def bodyPost : sProp 𝕄 :=
  iprop(owns (c : Thread nD τ) B.ids q (v.ids c)
    ∗ (bigSep Finset.univ fun k => gat0 B v c k) ∗ (bigSep Finset.univ fun k => own B v c k qm 5)
    ∗ semVal (barCell c) 0 ∗ ∃ W, owes (c : Thread nD τ) (0 : CellTallies nD τ sig Unit) W)

theorem first_three : Function.update (Function.update (Function.update (fun _ => 0 : Fin 16 → ℕ) 0 1) 1 1) 2 1 = stT 0 := by
  decide +kernel

/-- The body's run. -/
theorem body_run :
    bodyPre B v K c qm (q := q) ⊢ wp frame (wpE defs 𝒱 (c : Thread nD τ) none) Set.univ (body B) (fun _ => bodyPost B v c qm (q := q)) := by
  have hsig (n : Dev nD) : (semSignalWord n barS 1#32 : Prog (TpuEff nD τ sig (Elt F) Λ₀ .tc) PUnit) = .op (.semSignal (n : Thread nD τ) barS ((1 : ℕ) : ℤ)) .ret := rfl
  have hwait : (semWaitWord barS 2#32 : Prog (TpuEff nD τ sig (Elt F) Λ₀ .tc) PUnit) = .op (.semWait barS ((2 : ℕ) : ℤ)) .ret := rfl
  have hx : (bigSep Finset.univ fun k => slot k 1 c B.xr) ⊢ ((sched B v).payload (barCell (xn c)) 0 false : sProp 𝕄) := by
    show _ ⊢ bigSep Finset.univ fun k : Fin 16 => iprop(ckAny (xn (xn c)) B.xr k ∗ reached ER (cell (xn (xn c)) 2 k) 0)
    rw [xn_xn]; exact .rfl
  have hy : (bigSep Finset.univ fun k => slot k 3 c B.yr) ⊢ ((sched B v).payload (barCell (yn c)) 0 true : sProp 𝕄) := by
    show _ ⊢ bigSep Finset.univ fun k : Fin 16 => iprop(ckAny (yn (yn c)) B.yr k ∗ reached ER (cell (yn (yn c)) 4 k) 0)
    rw [yn_yn]; exact .rfl
  have hslots : iprop((bigSep Finset.univ fun k => fresh B v c k qm) ∗ barPay B c false ∗ barPay B c true)
      ⊢ (owns16 B v c qm (stT 0) : sProp 𝕄) := by
    have e : ∀ k : Fin 16, (own B v c k qm (stT 0 k) : sProp 𝕄) = iprop(fresh B v c k qm ∗ slots B c k) := fun k => by
      have : stT 0 k = 0 ∨ stT 0 k = 1 := by unfold stT; split_ifs <;> omega
      rcases this with h | h <;> rw [h] <;> rfl
    unfold owns16
    rw [bigSep_congr fun k _ => e k, bigSep_sep']
    unfold slots
    rw [bigSep_sep']
    exact .rfl
  have he : owed c (fun _ => 0) = owed c (stT 0) := by
    rw [← first_three, owed_issue c _ 2 (by decide), owed_issue c _ 1 (by decide), owed_issue c _ 0 (by decide)]
  have hM := mayWait_owed (F := F) c (.reg barS) 1 (Nat.le_of_eq (lv_bar c)) (by decide) (fun _ => 0) (fun _ _ => by omega)
  have hturns := turns_run B v K c qm (q := q) (defs := defs) 𝒱 (tail B c) (tail_run B v K c qm 𝒱) 16 (Nat.le_refl _)
  have hend : gats B v c (stD 16) ⊢ (bigSep Finset.univ fun k => gat0 B v c k : sProp 𝕄) := by
    unfold gats
    rw [bigSep_congr (Φ := fun k => gat B v c k (stD 16 k)) (Ψ := fun k => gat0 B v c k) fun k _ => by
      rw [show stD 16 k = 5 from if_pos k.isLt]; rfl]
  have hend' : owns16 B v c qm (stD 16) ⊢ (bigSep Finset.univ fun k => own B v c k qm 5 : sProp 𝕄) := by
    unfold owns16
    rw [bigSep_congr (Φ := fun k => own B v c k qm (stD 16 k)) (Ψ := fun k => own B v c k qm 5) fun k _ => by
      rw [show stD 16 k = 5 from if_pos k.isLt]]
  unfold body bodyPre owed₀
  simp only [Prog.lift, Prog.bind_op, Prog.bind_ret, wp_deviceId, hsig, hwait]
  iintro ⟨#Hinv, #Hlev, Hids, Hg, Hf, Hsx, Hsy, Hat, Hc, Htx, #Hrx, Hty, #Hry, ⟨%W, HO⟩⟩
  iapply (issue_step B v c 𝒱 (fun _ => 0) 0 rfl _) $$ [Hg Hids]
  · isplitl [Hg]; · iexact Hg
    iexact Hids
  iintro Hg Hids
  iapply (issue_step B v c 𝒱 (Function.update (fun _ => 0) 0 1) 1 (by decide) _) $$ [Hg Hids]
  · isplitl [Hg]; · iexact Hg
    iexact Hids
  iintro Hg Hids
  iapply (issue_step B v c 𝒱 (Function.update (Function.update (fun _ => 0) 0 1) 1 1) 2 (by decide) _) $$ [Hg Hids]
  · isplitl [Hg]; · iexact Hg
    iexact Hids
  iintro Hg Hids
  rw [first_three]
  ihave #HIx := (inv_bar B v K (xn c)) $$ Hinv
  ihave #HIy := (inv_bar B v K (yn c)) $$ Hinv
  ihave #HIc := (inv_bar B v K c) $$ Hinv
  iapply (Rounds.wp_signal 𝒱 ER (sched B v) (c : Thread nD τ) none (dst := (xn c : Thread nD τ)) (sem := barS) (r := 0) (d := false) (κ := K (barCell (xn c)))
      (by rw [duties_bar]; exact Finset.mem_univ _) rfl () (owed c (fun _ => 0) + tallyAt (barCell (yn c)) () 1) rfl) $$ [HO Htx Hsx]
  · isplitr; · iexact HIx
    isplitl [HO]; · iexact HO
    isplitl [Htx]; · iexact Htx
    isplitl [Hsx]; · iapply hx; iexact Hsx
    iexact Hrx
  iintro HO
  iapply (Rounds.wp_signal 𝒱 ER (sched B v) (c : Thread nD τ) none (dst := (yn c : Thread nD τ)) (sem := barS) (r := 0) (d := true) (κ := K (barCell (yn c)))
      (by rw [duties_bar]; exact Finset.mem_univ _) rfl () (owed c (fun _ => 0)) rfl) $$ [HO Hty Hsy]
  · isplitr; · iexact HIy
    isplitl [HO]; · iexact HO
    isplitl [Hty]; · iexact Hty
    isplitl [Hsy]; · iapply hy; iexact Hsy
    iexact Hry
  iintro HO
  iapply (Rounds.wp_wait_rest_token 𝒱 ER (sched B v) (c : Thread nD τ) none (κ := K (barCell c))
      (wpE_semWait_eq 𝒱 (c : Thread nD τ) none Set.univ) (Set.mem_univ _) () (O := owed c (fun _ => 0)) (W := W) (R := 0) (m := 0) (T := ∅)
      ((Nat.zero_add 2).trans (expect_bar B v c).symm)) $$ [Hc HO Hat]
  · isplitr; · iexact HIc
    isplitl [Hc]; · iexact Hc
    isplitl [HO]; · iexact HO
    isplitr; · iapply hM; iexact Hlev
    iexact Hat
  iintro ⟨HO, Hat, -, Hpay⟩
  icases (Entails.of_eq (rest_bar B v c)) $$ Hpay with ⟨Hpx, Hpy⟩
  imod (close B v K (barCell c)) $$ [Hat] with Hz
  · isplitr; · iexact HIc
    iexact Hat
  iapply (wp_wand frame (wpE defs 𝒱 (c : Thread nD τ) none) Set.univ) $$ [Hids Hg Hf Hpx Hpy HO]
  · iapply hturns
    unfold hand chunks
    isplitr; · iexact Hinv
    isplitr; · iexact Hlev
    isplitl [Hg Hf Hpx Hpy HO]
    · isplitl [Hg]; · iexact Hg
      isplitl [Hf Hpx Hpy]
      · iapply hslots
        isplitl [Hf]; · iexact Hf
        isplitl [Hpx]; · iexact Hpx
        iexact Hpy
      iexists _
      rw [← he]; iexact HO
    iexact Hids
  unfold chunks
  iintro %_ ⟨⟨Hg, Ho, HO⟩, Hids⟩
  unfold bodyPost
  isplitl [Hids]; · iexact Hids
  isplitl [Hg]; · iapply hend; iexact Hg
  isplitl [Ho]; · iapply hend'; iexact Ho
  isplitl [Hz]; · iexact Hz
  rw [owed_done c (stD 16) (fun j => by unfold stD; split_ifs <;> omega)]
  iexact HO

end Cert.KernelIdeal.Run

end
-- ==== Proof.Parts.lean ====
module

public import proofs.«01_k».proof.Proof.Run

@[expose] public section
noncomputable section
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds Cert.KernelIdeal.Gen

namespace Cert.KernelIdeal.Run

/-! # A device's buffers as the chunks' parts

The body works on chunks; a launch holds whole buffers. Here the whole buffers are taken apart into what each chunk uses, and
what the chunks leave is put together again. -/

variable {F : FTy → Type} [FloatOps F]

local notation "𝕄" => MT nD τ sig Unit (Elt F) ℕ UU ℕ

theorem sep_four (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ
theorem sep_five (Φ : Fin 5 → sProp (MT nD τ sig Unit (Elt F) ℕ UU ℕ)) : bigSep Finset.univ Φ = iprop(Φ 0 ∗ Φ 1 ∗ Φ 2 ∗ Φ 3 ∗ Φ 4) :=
  bigSep_univ_eq_bigSepL [0, 1, 2, 3, 4] (by decide) (by decide) Φ

/-- Two families side by side are the family of the pairs. -/
theorem zip_up {I : Type} [DecidableEq I] (S : Finset I) (Φ Ψ : I → sProp (MT nD τ sig Unit (Elt F) ℕ UU ℕ)) :
    iprop(bigSep S Φ ∗ bigSep S Ψ) ⊢ (bigSep S (fun i => iprop(Φ i ∗ Ψ i)) : sProp 𝕄) :=
  Entails.of_eq (bigSep_sep' ..).symm

section Any

variable {sp : Space} {e : EltTy} (c : Dev nD) (m : Memref sig .tc sp S1024x1024 e)

/-- A buffer held whole is its sixteen chunks held. -/
theorem any_split (X : S1024x1024.Idx → Elt F e) :
    (owns (c : Thread nD τ) m fullShare X : sProp 𝕄) ⊢ bigSep Finset.univ fun k => ckAny c m k := by
  refine (owns_rects (c : Thread nD τ) m fullShare chunkR (fun _ _ => rfl) chunkR_disjoint chunkR_cover X).trans ?_
  have h (k : Fin 16) : (owns (c : Thread nD τ) (m.slice (chunkR k) (fun _ => rfl)) fullShare (fun j => X ((chunkR k).emb j)) : sProp 𝕄)
      ⊢ ckAny c m k := by
    unfold ckAny ck; iintro H; iexists _; iexact H
  exact bigSep_mono fun k _ => h k

/-- Values of the whole buffer from values of each chunk. -/
def glue (Z : (k : Fin 16) → (chunkR k).shape.Idx → Elt F e) : S1024x1024.Idx → Elt F e := fun i =>
  open scoped Classical in
  if h : ∃ p : (k : Fin 16) × (chunkR k).shape.Idx, (chunkR p.1).emb p.2 = i then Z h.choose.1 h.choose.2
  else Z 0 (fun a => ⟨0, by fin_cases a <;> decide⟩)

theorem glue_emb (Z : (k : Fin 16) → (chunkR k).shape.Idx → Elt F e) (k : Fin 16) (j : (chunkR k).shape.Idx) :
    glue Z ((chunkR k).emb j) = Z k j := by
  have h : ∃ p : (k : Fin 16) × (chunkR k).shape.Idx, (chunkR p.1).emb p.2 = (chunkR k).emb j := ⟨⟨k, j⟩, rfl⟩
  unfold glue
  rw [dif_pos h]
  have hs := h.choose_spec
  generalize h.choose = p at hs
  obtain ⟨k', j'⟩ := p
  have hk : k' = k := by
    by_contra hne
    have mem (k : Fin 16) (j : (chunkR k).shape.Idx) : (chunkR k).emb j ∈ (chunkR k).set := by
      have hj : (j 0).val < 64 := (j 0).isLt
      have e : ((chunkR k).emb j 0).val = 64 * k.val + (j 0).val := by
        show 64 * k.val + 1 * (j 0).val = _; omega
      rw [chunkR_mem]; omega
    refine Finset.disjoint_left.mp (chunkR_disjoint k' k hne) (mem k' j') ?_
    dsimp only at hs; rw [hs]; exact mem k j
  subst hk
  exact congrArg (Z k') ((chunkR k').emb.injective hs)

/-- And back: the sixteen chunks held, the buffer is, at some values. -/
theorem any_join : (bigSep Finset.univ fun k => ckAny c m k) ⊢ (iprop(∃ X, owns (c : Thread nD τ) m fullShare X) : sProp 𝕄) := by
  unfold ckAny ck
  have hx := bigSep_exists_pi Finset.univ fun (k : Fin 16) (Z : (chunkR k).shape.Idx → Elt F e) =>
    (owns (c : Thread nD τ) (m.slice (chunkR k) (fun _ => rfl)) fullShare Z : sProp 𝕄)
  refine BIBase.Entails.trans hx ?_
  iintro ⟨%Z, H⟩
  iexists glue Z
  iapply (owns_of_rects (c : Thread nD τ) m fullShare chunkR (fun _ _ => rfl) chunkR_disjoint chunkR_cover (glue Z))
  have e : (fun k : Fin 16 => (owns (c : Thread nD τ) (m.slice (chunkR k) (fun _ => rfl)) fullShare (fun j => glue Z ((chunkR k).emb j)) : sProp 𝕄))
      = fun k => owns (c : Thread nD τ) (m.slice (chunkR k) (fun _ => rfl)) fullShare (Z k) :=
    funext fun k => by rw [show (fun j => glue Z ((chunkR k).emb j)) = Z k from funext fun j => glue_emb Z k j]
  rw [e]
  iexact H

end Any

variable (B : Bufs) (v : Inp F) (c : Dev nD)

/-! ## The result -/

/-- The result's buffer held whole is each chunk's two places in it held, -/
theorem out_split (X : S2048x1024.Idx → Elt F .f32) :
    (owns (c : Thread nD τ) B.out fullShare X : sProp 𝕄) ⊢ bigSep Finset.univ fun k => iprop(outAny B c k true ∗ outAny B c k false) := by
  refine (owns_rects (c : Thread nD τ) B.out fullShare (outR c) (fun t => by rcases t with ⟨b, k⟩; cases b <;> exact fun _ => rfl)
    (outR_disjoint c) (outR_cover c) X).trans ?_
  have h (t : Bool × Fin 16) : (owns (c : Thread nD τ) (B.out.slice (outR c t) (by rcases t with ⟨b, k⟩; cases b <;> exact fun _ => rfl)) fullShare
      (fun j => X ((outR c t).emb j)) : sProp 𝕄) ⊢ outAny B c t.2 t.1 := by
    unfold outAny; iintro H; iexists _; iexact H
  refine (show _ ⊢ (bigSep Finset.univ fun t : Bool × Fin 16 => (outAny B c t.2 t.1 : sProp 𝕄)) from bigSep_mono fun t _ => h t).trans ?_
  rw [bigSep_univ_prod]
  refine Entails.of_eq ?_
  rw [bigSep_univ_eq_bigSepL [true, false] (by decide) (by decide), bigSep_sep']
  rfl

/-- and once they all hold the result's values, so does the buffer. -/
theorem out_join :
    (bigSep Finset.univ fun k => iprop(outAt B v c k true ∗ outAt B v c k false))
      ⊢ (owns (c : Thread nD τ) B.out fullShare (outV v c) : sProp 𝕄) := by
  refine BIBase.Entails.trans ?_ (owns_of_rects (c : Thread nD τ) B.out fullShare (outR c) (fun t => by rcases t with ⟨b, k⟩; cases b <;> exact fun _ => rfl)
    (outR_disjoint c) (outR_cover c) (outV v c))
  rw [bigSep_univ_prod]
  refine Entails.of_eq ?_
  rw [bigSep_univ_eq_bigSepL [true, false] (by decide) (by decide), bigSep_sep']
  rfl

/-! ## The mask -/

theorem msk_split : (owns (c : Thread nD τ) B.msk fullShare (v.msk c) : sProp 𝕄) ⊢ bigSep Finset.univ fun k => mskAt B v c k fullShare :=
  owns_rects (c : Thread nD τ) B.msk fullShare maskR (fun _ _ => rfl) maskR_disjoint maskR_cover (v.msk c)

theorem msk_join : (bigSep Finset.univ fun k => mskAt B v c k fullShare) ⊢ (owns (c : Thread nD τ) B.msk fullShare (v.msk c) : sProp 𝕄) :=
  owns_of_rects (c : Thread nD τ) B.msk fullShare maskR (fun _ _ => rfl) maskR_disjoint maskR_cover (v.msk c)

/-! ## All of them -/

/-- What chunk `k` has of the buffers: its rows of the five scratch buffers, its share of the table. -/
def bufs (k : Fin 16) : sProp 𝕄 :=
  iprop(ckAny c B.part k ∗ ckAny c B.bf k ∗ ckAny c B.xr k ∗ ckAny c B.yb k ∗ ckAny c B.yr k
    ∗ owns (c : Thread nD τ) B.tab (tq k) (v.tab c))

/-- The scratch buffers, whole, at some values. -/
def scratch : sProp 𝕄 :=
  iprop((∃ X, owns (c : Thread nD τ) B.part fullShare X) ∗ (∃ X, owns (c : Thread nD τ) B.bf fullShare X)
    ∗ (∃ X, owns (c : Thread nD τ) B.xr fullShare X) ∗ (∃ X, owns (c : Thread nD τ) B.yb fullShare X)
    ∗ (∃ X, owns (c : Thread nD τ) B.yr fullShare X))

/-- What is left of the table when every chunk has its share. -/
abbrev tabRest : sProp 𝕄 := owns (c : Thread nD τ) B.tab (Transfers.shareDrop fullShare 16) (v.tab c)

theorem bufs_split :
    iprop(scratch B c ∗ owns (c : Thread nD τ) B.tab fullShare (v.tab c))
      ⊢ (iprop(tabRest B v c ∗ bigSep Finset.univ fun k => bufs B v c k) : sProp 𝕄) := by
  unfold scratch bufs
  rw [bigSep_sep', bigSep_sep', bigSep_sep', bigSep_sep', bigSep_sep']
  iintro ⟨⟨⟨%X1, H1⟩, ⟨%X2, H2⟩, ⟨%X3, H3⟩, ⟨%X4, H4⟩, ⟨%X5, H5⟩⟩, Ht⟩
  icases (owns_deal (c : Thread nD τ) B.tab fullShare 16 (v.tab c)) $$ Ht with ⟨Hr, Ht⟩
  isplitl [Hr]; · iexact Hr
  isplitl [H1]; · iapply (any_split c B.part X1); iexact H1
  isplitl [H2]; · iapply (any_split c B.bf X2); iexact H2
  isplitl [H3]; · iapply (any_split c B.xr X3); iexact H3
  isplitl [H4]; · iapply (any_split c B.yb X4); iexact H4
  isplitl [H5]; · iapply (any_split c B.yr X5); iexact H5
  iexact Ht

theorem bufs_join :
    iprop(tabRest B v c ∗ bigSep Finset.univ fun k => bufs B v c k)
      ⊢ (iprop(scratch B c ∗ owns (c : Thread nD τ) B.tab fullShare (v.tab c)) : sProp 𝕄) := by
  unfold scratch bufs
  rw [bigSep_sep', bigSep_sep', bigSep_sep', bigSep_sep', bigSep_sep']
  iintro ⟨Hr, H1, H2, H3, H4, H5, Ht⟩
  isplitr [Hr Ht]
  · isplitl [H1]; · iapply (any_join c B.part); iexact H1
    isplitl [H2]; · iapply (any_join c B.bf); iexact H2
    isplitl [H3]; · iapply (any_join c B.xr); iexact H3
    isplitl [H4]; · iapply (any_join c B.yb); iexact H4
    iapply (any_join c B.yr); iexact H5
  iapply (owns_undeal (c : Thread nD τ) B.tab fullShare 16 (v.tab c))
  isplitl [Hr]; · iexact Hr
  iexact Ht

/-! ## The protocol's part of a chunk -/

/-- Before the region: the rights to open the chunk's four counters, the tokens of the payments this device makes for it, the
credits for what arrives. -/
def closedK (k : Fin 16) : sProp 𝕄 :=
  iprop((bigSep Finset.univ fun j : Fin 4 => openTok ER (cell c j.succ k))
    ∗ (dutyTok ER (cell c 1 k) 0 false ∗ dutyTok ER (cell (xn c) 2 k) 0 false ∗ dutyTok ER (cell c 3 k) 0 false ∗ dutyTok ER (cell (yn c) 4 k) 0 false)
    ∗ cred (tallyAt (cell c 2 k) () N) ∗ cred (tallyAt (cell c 4 k) () N))

/-- Opened: the four counters at their start. -/
def openK (k : Fin 16) : sProp 𝕄 :=
  iprop(semVal (cell c 0 k) 0
    ∗ (bigSep Finset.univ fun j : Fin 4 => iprop(atPos ER (cell c j.succ k) 0 ∅ 0 ∗ reached ER (cell c j.succ k) 0))
    ∗ (dutyTok ER (cell c 1 k) 0 false ∗ dutyTok ER (cell (xn c) 2 k) 0 false ∗ dutyTok ER (cell c 3 k) 0 false ∗ dutyTok ER (cell (yn c) 4 k) 0 false)
    ∗ cred (tallyAt (cell c 2 k) () N) ∗ cred (tallyAt (cell c 4 k) () N))

/-- All a chunk starts with is what the body asks of it. -/
theorem start_chunk (k : Fin 16) :
    iprop(openK c k ∗ bufs B v c k ∗ (outAny B c k true ∗ outAny B c k false) ∗ mskAt B v c k fullShare)
      ⊢ (iprop(gat B v c k 0 ∗ fresh B v c k fullShare ∗ slot k 1 c B.xr ∗ slot k 3 c B.yr) : sProp 𝕄) := by
  rw [show (gat B v c k 0 : sProp 𝕄) = gat0 B v c k from rfl]
  unfold openK bufs gat0 fresh toSend pend slot
  rw [sep_four]
  iintro ⟨⟨Hs, ⟨⟨Ha1, #Hr1⟩, ⟨Ha2, #Hr2⟩, ⟨Ha3, #Hr3⟩, ⟨Ha4, #Hr4⟩⟩, ⟨Ht1, Ht2, Ht3, Ht4⟩, Hc2, Hc4⟩, ⟨H1, H2, H3, H4, H5, Ht⟩, ⟨Ho, Ho'⟩, Hm⟩
  isplitl [Hs H1 Ht]
  · isplitl [Hs]; · iexact Hs
    isplitl [H1]; · iexact H1
    iexact Ht
  isplitr [H3 H5]
  · isplitl [Ha1 Ht1 Ht2 H2]
    · isplitl [Ha1]; · iexact Ha1
      isplitr; · iexact Hr1
      isplitl [Ht1]; · iexact Ht1
      isplitl [Ht2]; · iexact Ht2
      iexact H2
    isplitl [Ha2 Hc2]
    · isplitl [Ha2]; · iexact Ha2
      iexact Hc2
    isplitl [Ha3 Ht3 Ht4 H4]
    · isplitl [Ha3]; · iexact Ha3
      isplitr; · iexact Hr3
      isplitl [Ht3]; · iexact Ht3
      isplitl [Ht4]; · iexact Ht4
      iexact H4
    isplitl [Ha4 Hc4]
    · isplitl [Ha4]; · iexact Ha4
      iexact Hc4
    isplitl [Ho]; · iexact Ho
    isplitl [Ho']; · iexact Ho'
    iexact Hm
  isplitl [H3]
  · isplitl [H3]; · iexact H3
    iexact Hr2
  isplitl [H5]; · iexact H5
  iexact Hr4

/-- A chunk's five counters, at zero. -/
def zeros (k : Fin 16) : sProp 𝕄 := bigSep Finset.univ fun j : Fin 5 => semVal (cell c j k) 0

/-- What the body leaves of a chunk: its counters at zero, the buffers, the result's two pieces. -/
theorem end_chunk (k : Fin 16) :
    iprop(gat0 B v c k ∗ own B v c k fullShare 5)
      ⊢ (iprop(zeros c k ∗ bufs B v c k ∗ (outAt B v c k true ∗ outAt B v c k false) ∗ mskAt B v c k fullShare) : sProp 𝕄) := by
  rw [show (own B v c k fullShare 5 : sProp 𝕄) = iprop(recvd c k 0 B.bf ∗ recvd c k 1 B.xr ∗ recvd c k 2 B.yb ∗ recvd c k 3 B.yr
    ∗ outAt B v c k true ∗ outAt B v c k false ∗ mskAt B v c k fullShare) from rfl]
  unfold gat0 recvd zeros bufs
  rw [sep_five]
  iintro ⟨⟨Hs, H1, Ht⟩, ⟨Hs1, H2⟩, ⟨Hs2, H3⟩, ⟨Hs3, H4⟩, ⟨Hs4, H5⟩, Ho, Ho', Hm⟩
  isplitl [Hs Hs1 Hs2 Hs3 Hs4]
  · isplitl [Hs]; · iexact Hs
    isplitl [Hs1]; · iexact Hs1
    isplitl [Hs2]; · iexact Hs2
    isplitl [Hs3]; · iexact Hs3
    iexact Hs4
  isplitl [H1 H2 H3 H4 H5 Ht]
  · isplitl [H1]; · iexact H1
    isplitl [H2]; · iexact H2
    isplitl [H3]; · iexact H3
    isplitl [H4]; · iexact H4
    isplitl [H5]; · iexact H5
    iexact Ht
  isplitl [Ho Ho']
  · isplitl [Ho]; · iexact Ho
    iexact Ho'
  iexact Hm

/-! ## The whole device -/

/-- The barrier's part: its counter at its start, the credit for the two neighbours' units, the right to pay each of them one. -/
def barK : sProp 𝕄 :=
  iprop(atPos ER (barCell c) 0 ∅ 0 ∗ cred (tallyAt (barCell c) () 2)
    ∗ dutyTok ER (barCell (xn c)) 0 false ∗ reached ER (barCell (xn c)) 0
    ∗ dutyTok ER (barCell (yn c)) 0 true ∗ reached ER (barCell (yn c)) 0)

/-- The protocol's part of a device, before the region and opened. -/
def closedG : sProp 𝕄 := iprop((∃ K, invs B v K) ∗ barK c ∗ bigSep Finset.univ fun k => closedK c k)
def openG : sProp 𝕄 := iprop((∃ K, invs B v K) ∗ levAts L lv ∗ barK c ∗ bigSep Finset.univ fun k => openK c k)

/-- The device's semaphores of the five families. -/
def osem (x : Fin 5 × Fin 16) : SemLoc sig := .dma (dsem x.1 x.2)

theorem sems_eq : (Pipeline.ownSems0 osem c : sProp 𝕄) = bigSep Finset.univ fun k => zeros c k := by
  unfold Pipeline.ownSems0 zeros
  rw [bigSep_univ_equiv (Equiv.prodComm (Fin 16) (Fin 5)), bigSep_univ_prod]
  rfl

/-- One chunk's counters opened. -/
theorem open_chunk (K : GSem nD τ sig → ℕ) (k : Fin 16) :
    iprop(invs B v K ∗ (closedK c k ∗ zeros c k)) ⊢ (|={Set.univ}=> openK c k : sProp 𝕄) := by
  unfold closedK zeros openK
  have h0 : (bigSep Finset.univ fun j : Fin 5 => (semVal (cell c j k) 0 : sProp 𝕄))
      ⊢ iprop(semVal (cell c 0 k) 0 ∗ bigSep Finset.univ fun j : Fin 4 => semVal (cell c j.succ k) 0) :=
    Entails.of_eq (by rw [sep_five, sep_four]; rfl)
  have h1 (j : Fin 4) : iprop(invs B v K ∗ (openTok ER (cell c j.succ k) ∗ semVal (cell c j.succ k) 0))
      ⊢ (|={Set.univ}=> iprop(atPos ER (cell c j.succ k) 0 ∅ 0 ∗ reached ER (cell c j.succ k) 0) : sProp 𝕄) := by
    iintro ⟨#HI, Ho, Hs⟩
    iapply (Rounds.cell_open ER (sched B v) (g := cell c j.succ k) (Set.mem_univ (K (cell c j.succ k))))
    isplitr; · iapply (inv_cell B v K c j k); iexact HI
    isplitl [Ho]; · iexact Ho
    iexact Hs
  iintro ⟨#HI, ⟨Ho, Ht, Hc⟩, Hs⟩
  icases h0 $$ Hs with ⟨Hs0, Hs⟩
  ihave Hos := (zip_up Finset.univ (fun j : Fin 4 => openTok ER (cell c j.succ k)) (fun j : Fin 4 => semVal (cell c j.succ k) 0)) $$ [Ho Hs]
  · isplitl [Ho]; · iexact Ho
    iexact Hs
  ihave H := (bigSep_with_persistent (R := invs B v K) (fun j _ => h1 j)) $$ [Hos]
  · isplitr; · iexact HI
    iexact Hos
  imod (bigSep_fupd _ _) $$ H with H
  imodintro
  isplitl [Hs0]; · iexact Hs0
  isplitl [H]; · iexact H
  isplitl [Ht]; · iexact Ht
  iexact Hc

/-- The device's semaphores, opened. -/
theorem open_dev :
    iprop(closedG B v c ∗ Pipeline.ownSems0 osem c ∗ levAts L lv) ⊢ (|={Set.univ}=> openG B v c : sProp 𝕄) := by
  rw [sems_eq]
  unfold closedG openG
  iintro ⟨⟨⟨%K, #HI⟩, Hb, Hk⟩, Hs, Hlev⟩
  ihave Hks := (zip_up Finset.univ (fun k => closedK c k) (fun k => zeros c k)) $$ [Hk Hs]
  · isplitl [Hk]; · iexact Hk
    iexact Hs
  ihave H := (bigSep_with_persistent (R := invs B v K) (fun k _ => open_chunk B v c K k)) $$ [Hks]
  · isplitr; · iexact HI
    iexact Hks
  imod (bigSep_fupd _ _) $$ H with H
  imodintro
  isplitr; · iexists K; iexact HI
  isplitl [Hlev]; · iexact Hlev
  isplitl [Hb]; · iexact Hb
  iexact H

/-- What the device's buffers hold when the body starts: the ids and the mask staged, the table, the rest at some values, -/
def bufsIn : sProp 𝕄 :=
  iprop(owns (c : Thread nD τ) B.ids fullShare (v.ids c) ∗ owns (c : Thread nD τ) B.msk fullShare (v.msk c)
    ∗ owns (c : Thread nD τ) B.tab fullShare (v.tab c) ∗ (∃ X, owns (c : Thread nD τ) B.out fullShare X) ∗ scratch B c)
/-- and when it ends: the same, the result in its buffer. -/
def bufsOut : sProp 𝕄 :=
  iprop(owns (c : Thread nD τ) B.ids fullShare (v.ids c) ∗ owns (c : Thread nD τ) B.msk fullShare (v.msk c)
    ∗ owns (c : Thread nD τ) B.tab fullShare (v.tab c) ∗ owns (c : Thread nD τ) B.out fullShare (outV v c) ∗ scratch B c)

theorem start_dev :
    iprop(openG B v c ∗ bufsIn B v c ∗ ∃ W, owes (c : Thread nD τ) (owed₀ c) W)
      ⊢ (iprop((∃ K, bodyPre B v K c fullShare (q := fullShare)) ∗ tabRest B v c) : sProp 𝕄) := by
  have hk : iprop((bigSep Finset.univ fun k => openK c k) ∗ (bigSep Finset.univ fun k => bufs B v c k)
        ∗ (bigSep Finset.univ fun k => iprop(outAny B c k true ∗ outAny B c k false)) ∗ (bigSep Finset.univ fun k => mskAt B v c k fullShare))
      ⊢ (iprop(gats B v c (fun _ => 0) ∗ (bigSep Finset.univ fun k => fresh B v c k fullShare)
        ∗ (bigSep Finset.univ fun k => slot k 1 c B.xr) ∗ (bigSep Finset.univ fun k => slot k 3 c B.yr)) : sProp 𝕄) := by
    unfold gats
    rw [← bigSep_sep', ← bigSep_sep', ← bigSep_sep', ← bigSep_sep', ← bigSep_sep', ← bigSep_sep']
    exact bigSep_mono fun k _ => start_chunk B v c k
  unfold openG bufsIn bodyPre barK
  iintro ⟨⟨⟨%K, #HI⟩, Hlev, ⟨Hat, Hc, Htx, Hrx, Hty, Hry⟩, Hk⟩, ⟨Hids, Hm, Ht, ⟨%X, Ho⟩, Hs⟩, HO⟩
  icases (bufs_split B v c) $$ [Hs Ht] with ⟨Hr, Hb⟩
  · isplitl [Hs]; · iexact Hs
    iexact Ht
  icases hk $$ [Hk Hb Ho Hm] with ⟨Hg, Hf, Hx, Hy⟩
  · isplitl [Hk]; · iexact Hk
    isplitl [Hb]; · iexact Hb
    isplitl [Ho]; · iapply (out_split B c X); iexact Ho
    iapply (msk_split B v c); iexact Hm
  isplitr [Hr]
  · iexists K
    isplitr; · iexact HI
    isplitl [Hlev]; · iexact Hlev
    isplitl [Hids]; · iexact Hids
    isplitl [Hg]; · iexact Hg
    isplitl [Hf]; · iexact Hf
    isplitl [Hx]; · iexact Hx
    isplitl [Hy]; · iexact Hy
    isplitl [Hat]; · iexact Hat
    isplitl [Hc]; · iexact Hc
    isplitl [Htx]; · iexact Htx
    isplitl [Hrx]; · iexact Hrx
    isplitl [Hty]; · iexact Hty
    isplitl [Hry]; · iexact Hry
    iexact HO
  iexact Hr

theorem end_dev :
    iprop(bodyPost B v c fullShare (q := fullShare) ∗ tabRest B v c)
      ⊢ (iprop(bufsOut B v c ∗ Pipeline.ownSems0 osem c ∗ semVal (barCell c) 0
        ∗ ∃ W, owes (c : Thread nD τ) (0 : CellTallies nD τ sig Unit) W) : sProp 𝕄) := by
  have hk : iprop((bigSep Finset.univ fun k => gat0 B v c k) ∗ (bigSep Finset.univ fun k => own B v c k fullShare 5))
      ⊢ (iprop((bigSep Finset.univ fun k => zeros c k) ∗ (bigSep Finset.univ fun k => bufs B v c k)
        ∗ (bigSep Finset.univ fun k => iprop(outAt B v c k true ∗ outAt B v c k false)) ∗ (bigSep Finset.univ fun k => mskAt B v c k fullShare)) : sProp 𝕄) := by
    rw [← bigSep_sep', ← bigSep_sep', ← bigSep_sep', ← bigSep_sep']
    exact bigSep_mono fun k _ => end_chunk B v c k
  rw [sems_eq]
  unfold bodyPost bufsOut
  iintro ⟨⟨Hids, Hg, Ho, Hb, HO⟩, Hr⟩
  icases hk $$ [Hg Ho] with ⟨Hz, Hbufs, Ho, Hm⟩
  · isplitl [Hg]; · iexact Hg
    iexact Ho
  icases (bufs_join B v c) $$ [Hr Hbufs] with ⟨Hs, Ht⟩
  · isplitl [Hr]; · iexact Hr
    iexact Hbufs
  isplitr [Hz Hb HO]
  · isplitl [Hids]; · iexact Hids
    isplitl [Hm]; · iapply (msk_join B v c); iexact Hm
    isplitl [Ht]; · iexact Ht
    isplitl [Ho]; · iapply (out_join B v c); iexact Ho
    iexact Hs
  isplitl [Hz]; · iexact Hz
  isplitl [Hb]; · iexact Hb
  iexact HO

/-- The body, on a device's whole buffers. -/
theorem dev_run {defs : Defs nD τ sig (Elt F) Λ₀} (𝒱 : Variants) :
    iprop(openG B v c ∗ bufsIn B v c ∗ ∃ W, owes (c : Thread nD τ) (owed₀ c) W)
      ⊢ wp frame (wpE defs 𝒱 (c : Thread nD τ) none) Set.univ (body B) (fun _ =>
        iprop(bufsOut B v c ∗ Pipeline.ownSems0 osem c ∗ semVal (barCell c) 0
          ∗ ∃ W, owes (c : Thread nD τ) (0 : CellTallies nD τ sig Unit) W)) := by
  iintro H
  icases (start_dev B v c) $$ H with ⟨⟨%K, H⟩, Hr⟩
  ihave Hw := (body_run B v K c fullShare (defs := defs) 𝒱) $$ H
  iapply wp_wand $$ Hw
  iintro %_ Hp
  iapply (end_dev B v c)
  isplitl [Hp]; · iexact Hp
  iexact Hr

end Cert.KernelIdeal.Run

end
-- ==== Proof.BodyEq.lean ====
module

public import proofs.«01_k».proof.Proof.Pieces

@[expose] public section

noncomputable section

namespace Cert.KernelIdeal.Run

open Idealize.ShloMosaic Idealize.SL.Sem Cert.KernelIdeal.Gen

variable {F : FTy → Type} [FloatOps F] (B : Bufs)

set_option maxRecDepth 65536 in
set_option maxHeartbeats 4000000 in
/-- The printed body is its pieces in the order `body` gives: its statements, cut into parts, are first put in one
sequence. -/
theorem cc0_body_pieces : cc0_body (F := F) B.ids B.hids B.msk B.hmsk B.tab B.htab B.out B.hout B.part B.hpart B.bf B.hbf B.xr B.hxr B.yb B.hyb B.yr B.hyr cc0_scratch5 cc0_scratch6 cc0_scratch7 cc0_scratch8 cc0_scratch9 = body B := by
  simp only [cc0_body, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, bind_assoc, pure_bind]
  rfl
end Cert.KernelIdeal.Run
-- ==== Proof.Region.lean ====
module

public import proofs.«01_k».proof.Proof.Parts
public import proofs.«01_k».proof.Proof.BodyEq
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit.Geometry

@[expose] public section
noncomputable section
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds Cert.KernelIdeal.Gen
open Idealize.ShloMosaic.Pipeline (Dat BodyObligation)

namespace Cert.KernelIdeal.Run

/-! # The kernel's region

The body as the launch calls it: its buffers, what they hold before and after, and the record of the region. -/

variable {F : FTy → Type} [FloatOps F]

local notation "𝕄" => MT nD τ sig Unit (Elt F) ℕ UU ℕ

variable (m : (ℓ : Loc nD τ sig) → Buf (Elt F) ℓ) (c : Dev nD)

/-- The buffers the body is called with. -/
def B₀ : Bufs where
  ids := win0_0.stage (cfg0.slots t0_0 0)
  hids := hstage0_0 0
  msk := win0_1.stage (cfg0.slots t0_0 1)
  hmsk := hstage0_1 0
  tab := Memref.whole main_arg1
  htab := Memref.isWhole_whole _
  out := win0_2.stage (cfg0.slots t0_0 2)
  hout := hstage0_2 0
  part := Memref.whole cc0_scratch0
  hpart := Memref.isWhole_whole _
  bf := Memref.whole cc0_scratch1
  hbf := Memref.isWhole_whole _
  xr := Memref.whole cc0_scratch2
  hxr := Memref.isWhole_whole _
  yb := Memref.whole cc0_scratch3
  hyb := Memref.isWhole_whole _
  yr := Memref.whole cc0_scratch4
  hyr := Memref.isWhole_whole _

/-- What it reads: the ids and the mask computed before it, the table. -/
def v₀ : Inp F where
  ids c := V1 m c main_v16
  msk c := V1 m c main_v23
  tab c := V1 m c main_arg1

/-- What it leaves. -/
def outs : Outs (F := F) := fun _ r c => if h : r = main_v24 then h ▸ outV (v₀ m) c else V1 m c r

theorem outs_eq : outs m 2 main_v24 c = outV (v₀ m) c := by unfold outs; rw [dif_pos rfl]

theorem scratch_eq : (scratch B₀ c : sProp 𝕄) = Pipeline.scopedRest spec0 c := by
  rw [scopedRest0_eq]
  unfold scratch B₀
  simp only [owns_whole]
  rfl

/-- The table's buffer, the one of @main's the body reads where it lies. -/
abbrev Hs : Finset (DevRef τ sig) := {Proc.devRef .tc main_arg1}

theorem held_Hs (W : Valuation τ sig (Elt F)) (hW : W main_arg1 = V1 m c main_arg1) :
    (StableHlo.held (c.tc : Thread nD τ) Hs W : sProp 𝕄) = owns (c : Thread nD τ) (B₀.tab) fullShare ((v₀ m).tab c) := by
  unfold StableHlo.held Hs
  rw [bigSep_singleton]
  show _ = (owns (c : Thread nD τ) (Memref.whole main_arg1) fullShare (V1 m c main_arg1) : sProp 𝕄)
  rw [owns_whole, ← hW]

/-- Around the body: the scratch buffers, the table and the protocol, opened, before it; -/
def Φ₀ : sProp 𝕄 :=
  iprop(Pipeline.scopedRest spec0 c ∗ (∃ r, prngReg c r) ∗ StableHlo.held (c.tc : Thread nD τ) Hs (V1 m c) ∗ openG B₀ (v₀ m) c)
/-- the same buffers and every counter at zero after it. -/
def Φ₁ : sProp 𝕄 :=
  iprop(Pipeline.scopedRest spec0 c ∗ (∃ r, prngReg c r) ∗ StableHlo.held (c.tc : Thread nD τ) Hs (V2 m (outs m) c)
    ∗ Pipeline.ownSems0 osem c ∗ semVal (barCell c) 0)

/-- The region's data: the windows at what @main computed, the result's at what the body leaves; around them the protocol. -/
def dat0 (c : Dev nD) : Dat τ (Elt F) Unit ℕ UU ℕ cfg0 c where
  A w := V1 m c (Proc.devRef .tc (Pipeline.arrRef spec0 w))
  after w _ := match w with
    | ⟨0, _⟩ => (v₀ m).ids c
    | ⟨1, _⟩ => (v₀ m).msk c
    | ⟨2, _⟩ => outV (v₀ m) c
  Φ t := match t with
    | ⟨0, _⟩ => Φ₀ m c
    | ⟨_ + 1, _⟩ => Φ₁ m c
  q _ := fullShare
  owed t := match t with
    | ⟨0, _⟩ => owed₀ c
    | ⟨_ + 1, _⟩ => 0

def pdats : (p : Fin 1) → (c : Dev nD) → Dat τ (Elt F) Unit ℕ UU ℕ (cfgs p) c
  | 0 => dat0 m

theorem owed_first : (dat0 m c).owed t0_0.castSucc = owed₀ c := rfl
theorem owed_last : (dat0 m c).owed t0_0.succ = 0 := rfl

/-- The owing of a region's point, from a record of it and to one. -/
theorem owesAt_of (t : Fin (cfg0.N + 1)) (O : CellTallies nD τ sig Unit) (h : (dat0 m c).owed t = O) :
    (iprop(∃ W, owes (c : Thread nD τ) O W) : sProp 𝕄) ⊢ (dat0 m c).owesAt () t := by
  unfold Dat.owesAt Pipeline.owesWithin Dat.bound
  rw [h]
  iintro ⟨%W, HO⟩
  iexists W
  isplitr; · ipureintro; exact fun _ _ => Or.inl trivial
  iexact HO
theorem of_owesAt (t : Fin (cfg0.N + 1)) (O : CellTallies nD τ sig Unit) (h : (dat0 m c).owed t = O) :
    (dat0 m c).owesAt () t ⊢ (iprop(∃ W, owes (c : Thread nD τ) O W) : sProp 𝕄) := by
  unfold Dat.owesAt Pipeline.owesWithin
  rw [h]
  iintro ⟨%W, -, HO⟩
  iexists W
  iexact HO

/-- An input window's buffer is staged whole. -/
theorem fetched_ids (dat : Dat τ (Elt F) Unit ℕ UU ℕ cfg0 c) (d) : dat.before (0 : Fin 3) t0_0 d = dat.A (0 : Fin 3) := by
  unfold Dat.before; rw [if_pos (fetch0_0 t0_0)]
  refine (show dat.fetched (0 : Fin 3) t0_0 d = fun j => dat.A (0 : Fin 3) ((win0_0.blk t0_0).view.emb j) from rfl).trans ?_
  funext j
  refine congrArg (dat.A (0 : Fin 3)) (funext fun a => Fin.ext ?_)
  exact Pipeline.Window.rect_emb_val_of_index_zero win0_0 t0_0 a rfl j
theorem fetched_msk (dat : Dat τ (Elt F) Unit ℕ UU ℕ cfg0 c) (d) : dat.before (1 : Fin 3) t0_0 d = dat.A (1 : Fin 3) := by
  unfold Dat.before; rw [if_pos (fetch0_1 t0_0)]
  refine (show dat.fetched (1 : Fin 3) t0_0 d = fun j => dat.A (1 : Fin 3) ((win0_1.blk t0_0).view.emb j) from rfl).trans ?_
  funext j
  refine congrArg (dat.A (1 : Fin 3)) (funext fun a => Fin.ext ?_)
  exact Pipeline.Window.rect_emb_val_of_index_zero win0_1 t0_0 a rfl j
theorem before_ids (d) : (dat0 m c).before (0 : Fin 3) t0_0 d = (v₀ m).ids c := fetched_ids c (dat0 m c) d
theorem before_msk (d) : (dat0 m c).before (1 : Fin 3) t0_0 d = (v₀ m).msk c := fetched_msk c (dat0 m c) d

abbrev 𝒱₀ : Variants := Variants.none

set_option maxRecDepth 4000 in
/-- The body does what the region asks of it. -/
theorem body_obligation : BodyObligation (dat0 m c) (defs₀ (F := F)) 𝒱₀ () Set.univ := fun t => by
  rw [fin_N0 t]
  rw [bigSep_W0, bigSep_W0]
  rw [show (dat0 m c).Φ t0_0.castSucc = Φ₀ m c from rfl, show (dat0 m c).Φ t0_0.succ = Φ₁ m c from rfl]
  unfold Φ₀ Φ₁
  rw [← scratch_eq, held_Hs m c _ rfl, held_Hs m c _ (V2_of m (outs m) c main_arg1 (by decide))]
  show _ ⊢ wp frame (wpE (defs₀ (F := F)) 𝒱₀ (c : Thread nD τ) none) Set.univ (bodyAt0 t0_0) _
  rw [show (bodyAt0 t0_0 : Prog (TpuEff nD τ sig (Elt F) Λ₀ .tc) PUnit) = body B₀ from cc0_body_pieces B₀]
  simp only [before_ids, before_msk]
  iintro ⟨⟨Hs, Hp, Ht, HG⟩, HO, ⟨%d0, H0⟩, ⟨%d1, H1⟩, ⟨%d2, H2⟩⟩
  ihave HO := (of_owesAt m c _ _ (owed_first m c)) $$ HO
  ihave Hw := (dev_run B₀ (v₀ m) c (defs := defs₀ (F := F)) 𝒱₀) $$ [Hs Ht HG HO H0 H1 H2]
  · isplitl [HG]; · iexact HG
    isplitr [HO]
    · unfold bufsIn
      isplitl [H0]; · iexact H0
      isplitl [H1]; · iexact H1
      isplitl [Ht]; · iexact Ht
      isplitl [H2]; · iexists _; iexact H2
      iexact Hs
    iexact HO
  iapply wp_wand $$ Hw
  iintro %_ Hq
  unfold bufsOut
  icases Hq with ⟨⟨H0, H1, Ht, H2, Hs⟩, Hz, Hb, HO⟩
  isplitr [HO H0 H1 H2]
  · isplitl [Hs]; · iexact Hs
    isplitl [Hp]; · iexact Hp
    isplitl [Ht]; · iexact Ht
    isplitl [Hz]; · iexact Hz
    iexact Hb
  isplitl [HO]; · iapply (owesAt_of m c _ _ (owed_last m c)); iexact HO
  isplitl [H0]; · iexact H0
  isplitl [H1]; · iexact H1
  iexact H2

/-! ## The record -/

theorem kit : Pipeline.PLaunchFacts (nD := nD) (τ := τ) (pcfgs (F := F)) 0 := launch0.toP

theorem own_sems : Pipeline.OwnSemFacts spec0 osem where
  isScoped := by decide +kernel
  inj x y h := by
    obtain ⟨h1, h2⟩ := dsem_inj (SemLoc.dma.inj h)
    exact Prod.ext h1 h2
  disj := by decide +kernel

theorem owed₀_pos {g : GSem nD τ sig} {u : Unit} (h : 0 < owed₀ c g u) : u ∈ L g ∧ 0 < lv g u := by
  cases u
  unfold owed₀ at h
  rw [Pi.add_apply, Finsupp.add_apply, Pi.add_apply, Finsupp.add_apply] at h
  have bar (n : Dev nD) (h : 0 < (tallyAt (barCell n) () 1 : CellTallies nD τ sig Unit) g ()) : g = barCell n := by
    rw [tallyAt_apply] at h
    split at h
    · next e => exact e.1
    · exact absurd h (Nat.lt_irrefl 0)
  rcases Nat.add_pos_iff_pos_or_pos.mp h with h | h
  · rcases Nat.add_pos_iff_pos_or_pos.mp h with h | h
    · obtain ⟨k, ⟨-, rfl⟩ | ⟨-, rfl⟩⟩ := owed_pos c _ _ _ h
      · exact ⟨by rw [L_tc]; exact Finset.mem_singleton_self _, by rw [lv_x]; omega⟩
      · exact ⟨by rw [L_tc]; exact Finset.mem_singleton_self _, by rw [lv_y]; omega⟩
    · rw [bar _ h]; exact ⟨by rw [L_tc]; exact Finset.mem_singleton_self _, by rw [lv_bar]; omega⟩
  · rw [bar _ h]; exact ⟨by rw [L_tc]; exact Finset.mem_singleton_self _, by rw [lv_bar]; omega⟩

theorem owed_lv (t : Fin (cfg0.N + 1)) {g : GSem nD τ sig} {u : Unit} (h : 0 < (dat0 m c).owed t g u) : u ∈ L g ∧ 0 < lv g u := by
  rcases t with ⟨_ | t, ht⟩
  · exact owed₀_pos c h
  · exact absurd h (Nat.lt_irrefl 0)

/-- The semaphores of the windows' copies are below all the protocol's. -/
theorem stage_lv (c : Dev nD) (w : Fin 3) (s : Fin (cfg0.win w).nbuf) : lv ((c : Thread nD τ), .dma ((cfg0.win w).sem s)) () ≤ 0 := by
  have h : ∀ (w : Fin 3) (s : Fin (cfg0.win w).nbuf), famOf ((cfg0.win w).sem s) = 0 := by decide +kernel
  show (if famOf _ = 2 then _ else if famOf _ = 4 then _ else 0) ≤ 0
  rw [h]
  exact le_rfl

/-- The buffers of @main's that are no window's. -/
abbrev Sr : Finset (DevRef τ sig) := Pipeline.ucRefs τ sig \ Pipeline.arrRefs (τ := τ) spec0

theorem Hs_sub : Hs ⊆ Sr := by
  rw [Finset.singleton_subset_iff]
  refine Finset.mem_sdiff.mpr ⟨Finset.mem_filter.mpr ⟨StableHlo.devRef_mem_tcRefs main_arg1, by decide⟩, ?_⟩
  decide +kernel

theorem V2_rest (b : DevRef τ sig) (hb : b ∈ Sr \ Hs) : V2 m (outs m) c b = V1 m c b := by
  refine Function.update_of_ne ?_ _ _
  rintro rfl
  exact absurd (Finset.mem_sdiff.mp (Finset.mem_sdiff.mp hb).1).2 (not_not.mpr (by decide +kernel))

theorem arr_last : ∀ w : Fin 3, (dat0 m c).arrAt w cfg0.N = V2 m (outs m) c (Proc.devRef .tc (Pipeline.arrRef spec0 w))
  | 0 => ((dat0 m c).arrAt_in 0 rfl _).trans (V2_of m (outs m) c main_v16 (by decide)).symm
  | 1 => ((dat0 m c).arrAt_in 1 rfl _).trans (V2_of m (outs m) c main_v23 (by decide)).symm
  | 2 => by
    show _ = V2 m (outs m) c main_v24
    rw [show V2 m (outs m) c main_v24 = outV (v₀ m) c from (Function.update_self ..).trans (outs_eq m c)]
    exact (dat0 m c).arrAt_eq_of_after_last (2 : Fin 3) t0_0 (by decide +kernel) _ (fun j => rfl)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_sems
    Hs Sr Hs_sub kit rfl (fun c => (body_obligation m c).loose)
    (fun _ => 0) owed₀ (fun c => (owed_first m c).trans (zero_add _).symm) (fun c => owed_last m c) (fun _ => rfl)
    (fun c w => by unfold Dat.share; split <;> rfl)
    (V1 m) (V2 m (outs m)) (V2_rest m)
    (closedG B₀ (v₀ m)) (fun c => semVal (barCell c) 0) (openG B₀ (v₀ m)) (fun c => semVal (barCell c) 0) (open_dev B₀ (v₀ m))
    (fun c => .rfl) (fun c => .rfl)
    (fun c => by iintro H; imodintro; iexact H)
    (fun _ => 0)
    ⟨fun c w s => by rw [L_tc]; exact Finset.mem_singleton_self _, stage_lv,
      fun c t g i h => owed_lv m c t h⟩
    (fun _ => iprop(emp))
    (fun c w => rfl) (fun c w => arr_last m c w)

end Cert.KernelIdeal.Run

end
-- ==== Proof.Launch.lean ====
module

public import proofs.«01_k».proof.Proof.Region
public import Idealize.ShloMosaic.Lib.Quiescent

@[expose] public section
noncomputable section
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem Idealize.ShloMosaic.Rounds Cert.KernelIdeal.Gen

namespace Cert.KernelIdeal.Run

/-! # The launch

What the launch deals to the devices: the semaphores' invariants, the rights to pay them, the credits for what arrives; and with
that the run of all four devices. -/

variable {F : FTy → Type} [FloatOps F]

local notation "𝕄" => MT nD τ sig Unit (Elt F) ℕ UU ℕ

/-! ## The rights to pay -/

/-- The payments of a device's semaphores: the two units of its barrier, one payment on each semaphore of the exchanges. -/
abbrev Pay : Type := Bool ⊕ (Fin 4 × Fin 16)

def payAt (x : Dev nD × Pay) : GSem nD τ sig × ℕ × Bool :=
  match x.2 with
  | .inl b => (barCell x.1, 0, b)
  | .inr y => (cell x.1 y.1.succ y.2, 0, false)

theorem payAt_inj : Function.Injective payAt := by
  rintro ⟨c, b | y⟩ ⟨c', b' | y'⟩ h
  · obtain rfl : c = c' := congrArg (fun t : GSem nD τ sig × ℕ × Bool => t.1.1.1) h
    obtain rfl : b = b' := congrArg (fun t : GSem nD τ sig × ℕ × Bool => t.2.2) h
    rfl
  · exact absurd (congrArg (fun t : GSem nD τ sig × ℕ × Bool => t.1.2) h) (fun h => by cases h)
  · exact absurd (congrArg (fun t : GSem nD τ sig × ℕ × Bool => t.1.2) h) (fun h => by cases h)
  · obtain ⟨rfl, h2, h3⟩ := cell_inj (congrArg Prod.fst h)
    rw [Prod.ext (Fin.succ_injective _ h2) h3]

def toks : Finset (GSem nD τ sig × ℕ × Bool) := Finset.univ.map ⟨payAt, payAt_inj⟩

/-- A family over a device's exchange semaphores, chunk by chunk. -/
theorem by_chunk (Φ : Fin 4 → Fin 16 → sProp (MT nD τ sig Unit (Elt F) ℕ UU ℕ)) :
    (bigSep Finset.univ fun y : Fin 4 × Fin 16 => Φ y.1 y.2) = bigSep Finset.univ fun k => bigSep Finset.univ fun j => Φ j k := by
  rw [bigSep_univ_equiv (Equiv.prodComm (Fin 16) (Fin 4)), bigSep_univ_prod]
  rfl

/-- All the rights, device by device. -/
theorem toks_eq : bigSep toks (fun x => (dutyTok ER x.1 x.2.1 x.2.2 : sProp 𝕄)) = bigSep Finset.univ fun c : Dev nD =>
    iprop((dutyTok ER (barCell c) 0 false ∗ dutyTok ER (barCell c) 0 true)
      ∗ bigSep Finset.univ fun k : Fin 16 => iprop(dutyTok ER (cell c 1 k) 0 false ∗ dutyTok ER (cell c 2 k) 0 false
          ∗ dutyTok ER (cell c 3 k) 0 false ∗ dutyTok ER (cell c 4 k) 0 false)) := by
  unfold toks
  rw [bigSep_map, bigSep_univ_prod]
  refine bigSep_congr fun c _ => ?_
  rw [BI.bigSep_univ_sum, bigSep_univ_eq_bigSepL [false, true] (by decide) (by decide)]
  refine congrArg₂ BIBase.sep rfl ?_
  refine (by_chunk fun j k => (dutyTok ER (cell c j.succ k) 0 false : sProp 𝕄)).trans (bigSep_congr fun k _ => ?_)
  exact sep_four _

def xE : Dev nD ≃ Dev nD := ⟨xn, xn, xn_xn, xn_xn⟩
def yE : Dev nD ≃ Dev nD := ⟨yn, yn, yn_yn, yn_yn⟩

/-- Families over the devices, some of them handed on to a neighbour. -/
theorem around (A B : Dev nD → sProp (MT nD τ sig Unit (Elt F) ℕ UU ℕ)) (T₁ T₂ T₃ T₄ : Dev nD → Fin 16 → sProp (MT nD τ sig Unit (Elt F) ℕ UU ℕ)) :
    (bigSep Finset.univ fun c => iprop((A c ∗ B c) ∗ bigSep Finset.univ fun k => iprop(T₁ c k ∗ T₂ c k ∗ T₃ c k ∗ T₄ c k)))
      = bigSep Finset.univ fun c => iprop((A (xn c) ∗ B (yn c))
          ∗ bigSep Finset.univ fun k => iprop(T₁ c k ∗ T₂ (xn c) k ∗ T₃ c k ∗ T₄ (yn c) k)) := by
  simp only [bigSep_sep']
  rw [bigSep_univ_equiv xE A, bigSep_univ_equiv yE B, bigSep_univ_equiv xE (fun c => bigSep Finset.univ fun k => T₂ c k),
    bigSep_univ_equiv yE (fun c => bigSep Finset.univ fun k => T₄ c k)]
  rfl

/-! ## The credits -/

theorem owed_at_bar (d c : Dev nD) (st : Fin 16 → ℕ) : owed d st (barCell c) () = 0 := by
  by_contra h
  obtain ⟨k, ⟨-, h⟩ | h⟩ := owed_pos d st _ _ (Nat.pos_of_ne_zero h) <;> exact absurd (congrArg Prod.snd h) (fun h => by cases h)

theorem bar_unit (n c : Dev nD) : (tallyAt (barCell n) () 1 : CellTallies nD τ sig Unit) (barCell c) () = if n = c then 1 else 0 := by
  rw [tallyAt_apply]
  exact if_congr ⟨fun h => (congrArg (fun g : GSem nD τ sig => g.1.1) h.1).symm, fun h => ⟨h ▸ rfl, rfl⟩⟩ rfl rfl

theorem cell_unit (n c : Dev nD) (i j : Fin 5) (k' k : Fin 16) :
    (tallyAt (cell n i k') () N : CellTallies nD τ sig Unit) (cell c j k) () = if n = c ∧ i = j ∧ k' = k then N else 0 := by
  rw [tallyAt_apply]
  exact if_congr ⟨fun h => cell_inj h.1.symm, fun h => ⟨by rw [h.1, h.2.1, h.2.2], rfl⟩⟩ rfl rfl

theorem bar_no_cell (n c : Dev nD) (j : Fin 5) (k : Fin 16) : (tallyAt (barCell n) () 1 : CellTallies nD τ sig Unit) (cell c j k) () = 0 := by
  rw [tallyAt_apply]
  exact if_neg fun h => absurd (congrArg Prod.snd h.1) (fun h => by cases h)

/-- What device `d` owes the barrier of `c`. -/
theorem owed₀_bar (d c : Dev nD) : owed₀ d (barCell c) () = (if yn d = c then 1 else 0) + if xn d = c then 1 else 0 := by
  unfold owed₀
  rw [Pi.add_apply, Finsupp.add_apply, Pi.add_apply, Finsupp.add_apply, owed_at_bar, bar_unit, bar_unit, Nat.zero_add]

theorem owed₀_cell (d c : Dev nD) (j : Fin 5) (k : Fin 16) :
    owed₀ d (cell c j k) () = (if xn d = c ∧ 2 = j then N else 0) + if yn d = c ∧ 4 = j then N else 0 := by
  unfold owed₀ owed
  rw [Pi.add_apply, Finsupp.add_apply, Pi.add_apply, Finsupp.add_apply, bar_no_cell, bar_no_cell, Nat.add_zero,
    Finset.sum_apply, Finsupp.finsetSum_apply]
  have h (k' : Fin 16) : owedAt d k' 0 (cell c j k) ()
      = (if k' = k then (if xn d = c ∧ 2 = j then N else 0) + if yn d = c ∧ 4 = j then N else 0 else 0) := by
    unfold owedAt
    rw [if_pos (by decide), if_pos (by decide), Pi.add_apply, Finsupp.add_apply, cell_unit, cell_unit]
    by_cases hk : k' = k
    · rw [if_pos hk]
      exact congrArg₂ _ (if_congr (by rw [and_iff_left hk]) rfl rfl) (if_congr (by rw [and_iff_left hk]) rfl rfl)
    · rw [if_neg hk, if_neg fun h => hk h.2.2, if_neg fun h => hk h.2.2]
  rw [Finset.sum_congr rfl fun k' _ => h k', Finset.sum_ite_eq' Finset.univ k, if_pos (Finset.mem_univ _)]

theorem eq_iff_of_inv {f : Dev nD → Dev nD} (h : ∀ c, f (f c) = c) (d c : Dev nD) : f d = c ↔ d = f c :=
  ⟨fun e => by rw [← e, h], fun e => by rw [e, h]⟩

/-- Of all that is owed, two units are owed to a barrier, -/
theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed₀_bar d c, Finset.sum_add_distrib]
  simp only [eq_iff_of_inv yn_yn, eq_iff_of_inv xn_xn]
  rw [Finset.sum_ite_eq' Finset.univ (yn c) fun _ => 1, Finset.sum_ite_eq' Finset.univ (xn c) fun _ => 1,
    if_pos (Finset.mem_univ _), if_pos (Finset.mem_univ _)]

/-- and one arrival to each semaphore of arrivals. -/
theorem launch_x (c : Dev nD) (k : Fin 16) :
    tallyOn (cell c 2 k) (launchCredit (Pipeline.owing owed₀) 0 (cell c 2 k)) = (tallyAt (cell c 2 k) () N : CellTallies nD τ sig Unit) := by
  unfold tallyAt; refine congrArg _ (Finsupp.ext fun u => ?_); cases u
  rw [Pipeline.launchCredit_owing, Finsupp.single_eq_same, Finset.sum_congr rfl fun d _ => owed₀_cell d c 2 k, Finset.sum_add_distrib]
  simp only [eq_iff_of_inv yn_yn, eq_iff_of_inv xn_xn, show ¬ (4 : Fin 5) = 2 by decide, and_true, and_false, if_false, Finset.sum_const_zero]
  rw [Finset.sum_ite_eq' Finset.univ (xn c) fun _ => N, if_pos (Finset.mem_univ _), Nat.add_zero]

theorem launch_y (c : Dev nD) (k : Fin 16) :
    tallyOn (cell c 4 k) (launchCredit (Pipeline.owing owed₀) 0 (cell c 4 k)) = (tallyAt (cell c 4 k) () N : CellTallies nD τ sig Unit) := by
  unfold tallyAt; refine congrArg _ (Finsupp.ext fun u => ?_); cases u
  rw [Pipeline.launchCredit_owing, Finsupp.single_eq_same, Finset.sum_congr rfl fun d _ => owed₀_cell d c 4 k, Finset.sum_add_distrib]
  simp only [eq_iff_of_inv yn_yn, eq_iff_of_inv xn_xn, show ¬ (2 : Fin 5) = 4 by decide, and_true, and_false, if_false, Finset.sum_const_zero]
  rw [Finset.sum_ite_eq' Finset.univ (yn c) fun _ => N, if_pos (Finset.mem_univ _), Nat.zero_add]

/-- The exchange semaphores, among all. -/
def exch : Fin 4 × Fin 16 ↪ SemLoc sig :=
  ⟨fun y => .dma (dsem y.1.succ y.2), fun x y h => by
    obtain ⟨h1, h2⟩ := dsem_inj (SemLoc.dma.inj h)
    exact Prod.ext (Fin.succ_injective _ h1) h2⟩

theorem exch_sub : Finset.univ.map exch ⊆ Finset.univ.erase (SemLoc.reg barS : SemLoc sig) := fun x hx => by
  obtain ⟨y, -, rfl⟩ := Finset.mem_map.mp hx
  exact Finset.mem_erase.mpr ⟨(fun h => by cases h), Finset.mem_univ _⟩

/-- So a device starts with the credit of its barrier and of every chunk's arrivals. -/
theorem creds (c : Dev nD) :
    (Pipeline.launchCred owed₀ c : sProp 𝕄) ⊢ iprop(cred (tallyAt (barCell c) () 2)
      ∗ bigSep Finset.univ fun k : Fin 16 => iprop(cred (tallyAt (cell c 2 k) () N) ∗ cred (tallyAt (cell c 4 k) () N))) := by
  unfold Pipeline.launchCred
  rw [bigSep_univ_at _ (SemLoc.reg barS), launch_bar]
  refine sep_mono_right ((bigSep_subset exch_sub).trans ?_)
  rw [bigSep_map]
  refine (Entails.of_eq (by_chunk fun j k =>
    (cred (tallyOn (cell c j.succ k) (launchCredit (Pipeline.owing owed₀) 0 (cell c j.succ k))) : sProp 𝕄))).trans ?_
  have h (k : Fin 16) : (bigSep Finset.univ fun j : Fin 4 =>
      (cred (tallyOn (cell c j.succ k) (launchCredit (Pipeline.owing owed₀) 0 (cell c j.succ k))) : sProp 𝕄))
        ⊢ iprop(cred (tallyAt (cell c 2 k) () N) ∗ cred (tallyAt (cell c 4 k) () N)) := by
    rw [sep_four, ← launch_x, ← launch_y]
    iintro ⟨-, H2, -, H4⟩
    isplitl [H2]; · iexact H2
    iexact H4
  exact bigSep_mono fun k _ => h k

/-! ## The launch's element -/

def u₀ : UU :=
  (initOf (Pipeline.cells (Pipeline.pin (pcfgs (F := F)) adm) cellOf_inj) (Pipeline.launchToks (Pipeline.pin (pcfgs (F := F)) adm) cellOf_inj),
    (launchOf bCells dCells toks, 1))

theorem split_u (a : UR sig nD τ) (b : UK) : (ownU ((a, (b, 1)) : UU) : sProp 𝕄) ⊢ iprop(BI.own (EP (F := F) a) ∗ BI.own (ER (F := F) b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- The protocol's whole element, for now with device 0. -/
def park (c : Dev nD) : sProp 𝕄 := if c = 0 then BI.own (ER (F := F) (launchOf bCells dCells toks)) else iprop(emp)

theorem park_eq : bigSep Finset.univ (park (F := F)) = (BI.own (ER (F := F) (launchOf bCells dCells toks)) : sProp 𝕄) := by
  rw [bigSep_univ_at _ (0 : Dev nD), bigSep_congr (s := Finset.univ.erase (0 : Dev nD)) (Ψ := fun _ => (BI.emp : sProp 𝕄))
    fun c hc => by unfold park; rw [if_neg (Finset.ne_of_mem_erase hc)]; rfl, BI.bigSep_emp_const]
  unfold park; rw [if_pos rfl]
  exact BI.equiv_iff.mp sep_emp

/-! ## What each device starts from -/

variable (m : (ℓ : Loc nD τ sig) → Buf (Elt F) ℓ)

/-- The records all devices share. -/
def shared (K : GSem nD τ sig → ℕ) : sProp 𝕄 := iprop(invs B₀ (v₀ m) K ∗ bigSep bCells fun g => reached ER g 0)

instance shared_persistent (K : GSem nD τ sig → ℕ) : BI.Persistent (shared m K) := by unfold shared; infer_instance

theorem reached_bar (c : Dev nD) : (bigSep bCells fun g => (reached ER g 0 : sProp 𝕄)) ⊢ reached ER (barCell c) 0 :=
  bigSep_elim (Finset.mem_map.mpr ⟨c, Finset.mem_univ _, rfl⟩)

variable (ρ : Dev nD → PrngReg)

/-- What the kernel's region leaves aside of @main's: the protocol's part, the generator, what is owed. -/
def E : Fin 2 → Dev nD → sProp 𝕄
  | 0, c => iprop(closedG B₀ (v₀ m) c ∗ (∃ r, prngReg c r) ∗ ∃ W, owes (c : Thread nD τ) (owed₀ c) W)
  | 1, c => iprop(semVal (barCell c) 0 ∗ ∃ W, owes (c : Thread nD τ) (0 : CellTallies nD τ sig Unit) W)

abbrev held₀ (c : Dev nD) : sProp 𝕄 := StableHlo.held (c : Thread nD τ) (Pipeline.ucRefs τ sig) (V0 m c)
abbrev start (c : Dev nD) : sProp 𝕄 := iprop(held₀ m c ∗ E m 0 c)
abbrev finish (c : Dev nD) : sProp 𝕄 :=
  iprop(StableHlo.held (c : Thread nD τ) (Pipeline.ucRefs τ sig) (V2 m (outs m) c) ∗ semVal (barCell c) 0)

/-- A device's own share of the protocol, without the credits. -/
def mine (c : Dev nD) : sProp 𝕄 :=
  iprop(atPos ER (barCell c) 0 ∅ 0
    ∗ (bigSep Finset.univ fun k : Fin 16 => bigSep Finset.univ fun j : Fin 4 => openTok ER (cell c j.succ k))
    ∗ (dutyTok ER (barCell (xn c)) 0 false ∗ dutyTok ER (barCell (yn c)) 0 true)
    ∗ bigSep Finset.univ fun k : Fin 16 => iprop(dutyTok ER (cell c 1 k) 0 false ∗ dutyTok ER (cell (xn c) 2 k) 0 false
          ∗ dutyTok ER (cell c 3 k) 0 false ∗ dutyTok ER (cell (yn c) 4 k) 0 false))

/-- The rest of what it is dealt. -/
def rest (c : Dev nD) : sProp 𝕄 :=
  iprop(held₀ m c ∗ Pipeline.launchCred owed₀ c ∗ owes (c : Thread nD τ) (owed₀ c) ∅ ∗ ∃ r, prngReg c r)

theorem closed_of (c : Dev nD) :
    iprop((bigSep Finset.univ fun k : Fin 16 => bigSep Finset.univ fun j : Fin 4 => openTok ER (cell c j.succ k))
      ∗ (bigSep Finset.univ fun k : Fin 16 => iprop(dutyTok ER (cell c 1 k) 0 false ∗ dutyTok ER (cell (xn c) 2 k) 0 false
          ∗ dutyTok ER (cell c 3 k) 0 false ∗ dutyTok ER (cell (yn c) 4 k) 0 false))
      ∗ bigSep Finset.univ fun k : Fin 16 => iprop(cred (tallyAt (cell c 2 k) () N) ∗ cred (tallyAt (cell c 4 k) () N)))
      ⊢ (bigSep Finset.univ fun k => closedK c k : sProp 𝕄) := by
  unfold closedK
  simp only [bigSep_sep']
  exact .rfl

theorem start_of (K : GSem nD τ sig → ℕ) (c : Dev nD) : iprop(shared m K ∗ (mine (F := F) c ∗ rest m c)) ⊢ start m c := by
  unfold start shared mine rest E closedG barK
  iintro ⟨⟨#HI, #HR⟩, ⟨Ha, Ho, ⟨Hx, Hy⟩, Ht⟩, Hh, Hc, HO, Hp⟩
  icases (creds (F := F) c) $$ Hc with ⟨Hb, Hc⟩
  isplitl [Hh]; · iexact Hh
  isplitr [HO Hp]
  · isplitr; · iexists K; iexact HI
    isplitr [Ho Ht Hc]
    · isplitl [Ha]; · iexact Ha
      isplitl [Hb]; · iexact Hb
      isplitl [Hx]; · iexact Hx
      isplitr; · iapply (reached_bar (F := F) (xn c)); iexact HR
      isplitl [Hy]; · iexact Hy
      iapply (reached_bar (F := F) (yn c)); iexact HR
    iapply (closed_of (F := F) c)
    isplitl [Ho]; · iexact Ho
    isplitl [Ht]; · iexact Ht
    iexact Hc
  isplitl [Hp]; · iexact Hp
  iexists ∅; iexact HO

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- What the launch deals, made into what each device starts from. -/
theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ park (F := F) c)) ∗ levAts L lv)
      ⊢ (|={Set.univ}=> bigSep Finset.univ (start m) : sProp 𝕄) := by
  have hcore (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ park (F := F) c)
      ⊢ (iprop(rest m c ∗ (semVal (barCell c) 0 ∗ park (F := F) c)) : sProp 𝕄) := by
    rw [show (unscopedBufs c (fun b => m ((c : Thread nD τ).loc b)) : sProp 𝕄) = held₀ m c from Pipeline.unscopedBufs_held c (V0 m c), unscoped_sems]
    unfold rest
    iintro ⟨Hh, Hs, HO, Hc, Hp, HG⟩
    isplitr [Hs HG]
    · isplitl [Hh]; · iexact Hh
      isplitl [Hc]; · iexact Hc
      isplitl [HO]; · iexact HO
      iexists (ρ c); iexact Hp
    isplitl [Hs]; · iexact Hs
    iexact HG
  have hall : (bigSep Finset.univ fun c : Dev nD => iprop(unscopedBufs c (fun b => m ((c : Thread nD τ).loc b)) ∗ unscopedSems0 c
        ∗ owes (c : Thread nD τ) (owed₀ c) ∅ ∗ Pipeline.launchCred owed₀ c ∗ prngReg c (ρ c) ∗ park (F := F) c))
      ⊢ (iprop((bigSep Finset.univ fun c => rest m c) ∗ (bigSep Finset.univ fun c => semVal (barCell c) 0) ∗ bigSep Finset.univ fun c => park (F := F) c) : sProp 𝕄) := by
    refine BIBase.Entails.trans (bigSep_mono fun c _ => hcore c) (Entails.of_eq ?_)
    simp only [bigSep_sep']
  have hv : bigSep Finset.univ (fun c : Dev nD => (semVal (barCell c) 0 : sProp 𝕄)) ⊢ bigSep bCells (fun g => (semVal g 0 : sProp 𝕄)) :=
    Entails.of_eq (by unfold bCells; rw [bigSep_map]; rfl)
  have hat : bigSep bCells (fun g => (atPos ER g 0 ∅ 0 : sProp 𝕄)) ⊢ bigSep Finset.univ (fun c : Dev nD => (atPos ER (barCell c) 0 ∅ 0 : sProp 𝕄)) :=
    Entails.of_eq (by unfold bCells; rw [bigSep_map]; rfl)
  have hopen : bigSep dCells (fun g => (openTok ER g : sProp 𝕄))
      ⊢ bigSep Finset.univ (fun c : Dev nD => bigSep Finset.univ fun k : Fin 16 => bigSep Finset.univ fun j : Fin 4 => (openTok ER (cell c j.succ k) : sProp 𝕄)) :=
    Entails.of_eq (by
      unfold dCells
      rw [bigSep_map, bigSep_univ_prod]
      exact bigSep_congr fun c _ => by_chunk fun j k => (openTok ER (cell c j.succ k) : sProp 𝕄))
  have htok := Entails.of_eq ((toks_eq (F := F)).trans (around (fun c => dutyTok ER (barCell c) 0 false) (fun c => dutyTok ER (barCell c) 0 true)
    (fun c k => dutyTok ER (cell c 1 k) 0 false) (fun c k => dutyTok ER (cell c 2 k) 0 false)
    (fun c k => dutyTok ER (cell c 3 k) 0 false) (fun c k => dutyTok ER (cell c 4 k) 0 false)))
  have hmine : iprop(((bigSep Finset.univ fun c : Dev nD => (atPos ER (barCell c) 0 ∅ 0 : sProp 𝕄))
      ∗ (bigSep Finset.univ fun c : Dev nD => bigSep Finset.univ fun k : Fin 16 => bigSep Finset.univ fun j : Fin 4 => (openTok ER (cell c j.succ k) : sProp 𝕄))
      ∗ (bigSep Finset.univ fun c : Dev nD => iprop((dutyTok ER (barCell (xn c)) 0 false ∗ dutyTok ER (barCell (yn c)) 0 true)
        ∗ bigSep Finset.univ fun k : Fin 16 => iprop(dutyTok ER (cell c 1 k) 0 false ∗ dutyTok ER (cell (xn c) 2 k) 0 false
          ∗ dutyTok ER (cell c 3 k) 0 false ∗ dutyTok ER (cell (yn c) 4 k) 0 false))))
      ∗ bigSep Finset.univ fun c => rest m c)
      ⊢ (bigSep Finset.univ fun c => iprop(mine (F := F) c ∗ rest m c) : sProp 𝕄) := by
    unfold mine
    simp only [bigSep_sep']
    exact .rfl
  iintro ⟨H, -⟩
  icases hall $$ H with ⟨HB, Hv, HG⟩
  ihave Hu := (Entails.of_eq (park_eq (F := F))) $$ HG
  imod (Rounds.fund_launch ER (sched B₀ (v₀ m)) cells_disjoint (fun g _ h => h) toks) $$ [Hv Hu] with ⟨%K, -, #Hinv, #Hr, Hat, Hopen, Htok⟩
  · isplitl [Hv]
    · iapply hv $$ Hv
    · iexact Hu
  imodintro
  iapply (bigSep_with_persistent (R := shared m K) (Φ := fun c => iprop(mine (F := F) c ∗ rest m c)) fun c _ => start_of m K c)
  isplitr
  · unfold shared invs
    isplitr; · iexact Hinv
    iexact Hr
  iapply hmine
  isplitr [HB]
  · isplitl [Hat]; · iapply hat $$ Hat
    isplitl [Hopen]; · iapply hopen $$ Hopen
    iapply htok $$ Htok
  iexact HB

/-! ## The run -/

theorem unscoped_eq : ∀ sm : SemLoc sig, sm.isScoped .tc = false → sm = .reg barS := by decide +kernel

theorem region_pre (c : Dev nD) :
    iprop(StableHlo.held (c : Thread nD τ) (Pipeline.ucRefs τ sig) (V1 m c) ∗ E m 0 c) ⊢ (reg0 m).pre c := by
  have hT : Pipeline.arrRefs (τ := τ) spec0 ⊆ Pipeline.ucRefs τ sig := by decide +kernel
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ closedG B₀ (v₀ m) c ∗ ∃ Wd, owes (c : Thread nD τ) (0 + owed₀ c) Wd)
  rw [StableHlo.held_sub_split (c : Thread nD τ) hT (V1 m c), zero_add]
  unfold E
  iintro ⟨⟨Ha, Hr⟩, HG, Hp, HO⟩
  isplitl [Ha]; · iexact Ha
  isplitl [Hp]; · iexact Hp
  isplitl [Hr]
  · isplitl [Hr]; · iexact Hr
    iempintro
  isplitl [HG]; · iexact HG
  iexact HO

theorem region_post (c : Dev nD) : (reg0 m).post c
    ⊢ iprop(finish m c ∗ ∃ W, owes (c : Thread nD τ) (0 : CellTallies nD τ sig Unit) W) := by
  have hT : Pipeline.arrRefs (τ := τ) spec0 ⊆ Pipeline.ucRefs τ sig := by decide +kernel
  show iprop(StableHlo.held (c.tc : Thread nD τ) (Pipeline.arrRefs (τ := τ) spec0) (V2 m (outs m) c) ∗ (∃ r, prngReg c r)
    ∗ (StableHlo.held (c.tc : Thread nD τ) Sr (V2 m (outs m) c) ∗ emp) ∗ semVal (barCell c) 0
    ∗ ∃ Wd, owes (c : Thread nD τ) (0 : CellTallies nD τ sig Unit) Wd) ⊢ _
  unfold finish
  rw [StableHlo.held_sub_split (c : Thread nD τ) hT (V2 m (outs m) c)]
  iintro ⟨Ha, -, ⟨Hr, -⟩, Hb, HO⟩
  isplitr [HO]
  · isplitl [Ha Hr]
    · isplitl [Ha]; · iexact Ha
      iexact Hr
    iexact Hb
  iexact HO

/-- Every fair execution on the four devices ends, with the ids and the table as they were, each device's result
holding its rows, and every counter at zero. -/
def Final (s : MemSt nD τ sig (Elt F)) : Prop :=
  (∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v24) = outV (v₀ m) c) ∧ s.sem = fun _ => 0

set_option backward.isDefEq.respectTransparency.types false in
theorem run_main : θ_run defs (onTc (τ := τ) (main (F := F))) ⟨m, fun _ => 0, ρ⟩ (fun r => Final m r.2) := by
  refine Pipeline.θ_run_regions_kit_dev_sems (pcfgs (F := F)) adm (pdats m) () cellOf_inj EP defs₀ 𝒱₀ L lv m ρ main
    (segs m 𝒱₀ L lv (E m) () (pdats m) (reg0 m))
    (fun c Q => ?_) (fun c => by simp only [segs, Pipeline.Seg.pipes_host, Pipeline.Seg.pipes_region, Pipeline.Seg.pipes_nil]; decide)
    owed₀ L_of_ne park (u₀ (F := F)) ?_ (start m) (finish m) (fun c => ⟨.rfl, region_pre m c, region_post m c⟩) (init m ρ)
    (fun c s => (∀ b ∈ Pipeline.ucRefs τ sig, s.mem ((c : Thread nD τ).1, b) = V2 m (outs m) c b) ∧ s.sem (barCell c) = 0)
    (fun c s' => ?_) (fun s h hs => ?_)
  · rw [main_chain c, Pipeline.Seg.run_eq_chain,
      show (segs m 𝒱₀ L lv (E m) () (pdats m) (reg0 m) c).map Pipeline.Seg.prog
        = [StableHlo.seq (hostOps0 c), Prog.lift (.customCall (Pipeline.entry 0) ())] from rfl]
  · unfold u₀
    iintro Hu
    icases (split_u (F := F) _ _) $$ Hu with ⟨HP, HX⟩
    imodintro
    isplitl [HP]; · iexact HP
    rw [park_eq]; iexact HX
  · unfold finish StableHlo.held
    iintro ⟨⟨Hh, Hb⟩, HSI⟩
    icombine HSI Hb gives %hb
    ihave Hr := (pointsTo_read_all (Pipeline.ucRefs τ sig) (fun b => ((c : Thread nD τ).1, b)) (V2 m (outs m) c) s') $$ [Hh HSI]
    · isplitl [Hh]; · iexact Hh
      iexact HSI
    icases Hr with ⟨%h, HSI⟩
    imodintro
    isplitr
    · ipureintro
      exact ⟨h, by simpa using hb⟩
    iexact HSI
  · refine ⟨fun c => ⟨?_, ?_, ?_⟩, sem_eq_zero hs fun c sm hsm => by obtain rfl := unscoped_eq sm hsm; exact (h c).2⟩
    · exact ((h c).1 main_arg0 (Finset.mem_filter.mpr ⟨StableHlo.devRef_mem_tcRefs main_arg0, by decide⟩)).trans (V2_main_arg0 m (outs m) c)
    · exact ((h c).1 main_arg1 (Finset.mem_filter.mpr ⟨StableHlo.devRef_mem_tcRefs main_arg1, by decide⟩)).trans (V2_main_arg1 m (outs m) c)
    · exact ((h c).1 main_v24 (Finset.mem_filter.mpr ⟨StableHlo.devRef_mem_tcRefs main_v24, by decide⟩)).trans
        ((Function.update_self ..).trans (outs_eq m c))

end Cert.KernelIdeal.Run

end
-- ==== Proof.FrameK.lean ====
module

public import proofs.«01_k».proof.Defs
public import proofs.«01_k».proof.Proof.Launch
public import proofs.«01_k».proof.Proof.Gen.Kernel

@[expose] public section

namespace Cert.Proof

open Idealize.ShloMosaic Idealize.ShloMosaic.TcCoe Idealize.SL.Sem

/-- What the frame says, of the program the run is written for, over any float values. -/
def Framed (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

/-- It holds: the run, the values dropped. -/
theorem framed (F : FTy → Type) [FloatOps F] : Framed F := fun m ρ _ =>
  (θ_run Cert.KernelIdeal.defs _ _).mono (fun _ h => ⟨fun c => ⟨(h.1 c).1, (h.1 c).2.1⟩, h.2⟩)
    (Cert.KernelIdeal.Run.run_main m ρ)

/-- The kernel's text is the same, so its frame says the same at the machine's floats. -/
theorem quiescent_same : Framed Bits = Cert.quiescent_Kernel := by
  sl_kernel_rfl

end Cert.Proof
-- ==== Proof.Before.lean ====
module

public import proofs.«01_k».proof.Proof.Region
public import Idealize.ShloMosaic.Lib.StableHlo.RunClose

@[expose] public section

noncomputable section

namespace Cert.KernelIdeal.Run

open Idealize.ShloMosaic Idealize.ShloMosaic.TcCoe Idealize.ShloMosaic.StableHlo Idealize.SL.Sem Cert.KernelIdeal Cert.KernelIdeal.Gen

variable {F : FTy → Type} [FloatOps F]
variable (m : (ℓ : Loc nD τ sig) → Buf (Elt F) ℓ) (c : Dev nD)

/-! # What is computed before the kernel

Device `c` takes its 1024 of the ids, counts them from the first row of its part of the table, and marks those that fall
in that part. -/

/-- The second coordinate of a device times 1024, -/
def offsetW : IVec S_ 32 :=
  muli (id (Host.remui (Host.divui (constantI S_ 32 c.word) (constantI S_ 32 1#32)) (constantI S_ 32 2#32))) (constantI S_ 32 1024#32)

/-- the place of its first id, -/
def startW : IVec S_ 32 :=
  select (cmpi .slt (offsetW c) (constantI S_ 32 0#32)) (addi (offsetW c) (constantI S_ 32 2048#32)) (offsetW c)

/-- and the first row of its part of the table. -/
def baseW : IVec S_ 32 :=
  muli (id (Host.remui (Host.divui (constantI S_ 32 c.word) (constantI S_ 32 2#32)) (constantI S_ 32 2#32))) (constantI S_ 32 16384#32)

/-- The device's ids, counted from its first row. -/
def locIds (ids : IVec S2048 32) : IVec S1024 32 :=
  subi (Host.dynamicSlice S1024 ids (fun k => BitVec.toInt ((![startW c] : Fin 1 → IVec S_ 32) k (Shape.Idx.first h_S_))) sliceFits_S2048_S1024)
    (broadcastInDim S1024 ![] bcast_S_S1024 (baseW c))

/-- Which of them fall in its part. -/
def inPart (ids : IVec S2048 32) : IVec S1024 1 :=
  andi (cmpi .sge (locIds c ids) (broadcastInDim S1024 ![] bcast_S_S1024 (constantI S_ 32 0#32)))
    (cmpi .slt (locIds c ids) (broadcastInDim S1024 ![] bcast_S_S1024 (constantI S_ 32 16384#32)))

/-- The ids the kernel is given, -/
theorem ids_after (V : Valuation τ sig (Elt F)) : after (hostOps0 c) V (main_v16 : DevRef τ sig) = locIds c (V (main_arg0 : DevRef τ sig)) := by
  after_results_simp_entrywise
  unfold locIds startW offsetW baseW
  rfl

/-- and the mask. -/
theorem mask_after (V : Valuation τ sig (Elt F)) : after (hostOps0 c) V (main_v23 : DevRef τ sig)
    = broadcastInDim S1024x1 ![0] bcast_S1024_S1024x1_0 (uitofp (F := F) .f32 (inPart c (V (main_arg0 : DevRef τ sig)))) := by
  after_results_simp_entrywise
  unfold inPart locIds startW offsetW baseW
  rfl

theorem given_ids : V1 m c main_v16 = locIds c (m ((c : Thread nD τ).loc main_arg0)) := ids_after c (V0 m c)

theorem given_mask : V1 m c main_v23
    = broadcastInDim S1024x1 ![0] bcast_S1024_S1024x1_0 (uitofp (F := F) .f32 (inPart c (m ((c : Thread nD τ).loc main_arg0)))) :=
  mask_after c (V0 m c)

/-- The table is what the device was launched with. -/
theorem given_table : V1 m c main_arg1 = m ((c : Thread nD τ).loc main_arg1) :=
  (V1_of m c main_arg1 (by decide)).trans rfl

theorem startW_eq : (startW c (Shape.Idx.first h_S_)).toInt = ((1024 * (c.val % 2) : Nat) : Int) := by revert c; decide +kernel

theorem baseW_eq (j : S_.Idx) : baseW c j = BitVec.ofNat 32 (16384 * (c.val / 2)) := by revert c j; decide +kernel

/-- The place among all ids of the one at row `r` of device `c`'s. -/
def idIx (r : Nat) (h : r < 1024) : S2048.Idx :=
  fun a => ⟨1024 * (c.val % 2) + r, by fin_cases a; show _ < 2048; omega⟩

/-- A device's id counted from its first row: the id less that row. -/
theorem locIds_apply (ids : IVec S2048 32) (i : S1024.Idx) :
    locIds c ids i = ids (idIx c (i 0).val (i 0).isLt) - BitVec.ofNat 32 (16384 * (c.val / 2)) := by
  have hi : (i 0).val < 1024 := (i 0).isLt
  show ids _ - baseW c _ = _
  rw [baseW_eq]
  congr 2
  funext a
  apply Fin.ext
  obtain rfl : a = 0 := Subsingleton.elim _ _
  show (min (max (startW c (Shape.Idx.first h_S_)).toInt 0) _).toNat + (i 0).val = 1024 * (c.val % 2) + (i 0).val
  rw [startW_eq]
  show (min (max ((1024 * (c.val % 2) : Nat) : Int) 0) ((2048 - 1024 : Nat) : Int)).toNat + _ = _
  omega

end Cert.KernelIdeal.Run

end
-- ==== Proof.Ref.lean ====
module

public import Idealize.ShloMosaic.Lib.StableHlo.Run
public import Idealize.ShloMosaic.Lib.Quiescent
public import proofs.«01_k».proof.Proof.Gen.ReferenceIdeal

@[expose] public section

noncomputable section

namespace Cert.ReferenceIdeal.Run

open Idealize.ShloMosaic Idealize.ShloMosaic.TcCoe Idealize.ShloMosaic.StableHlo Idealize.SL.Sem
open Cert.ReferenceIdeal Cert.ReferenceIdeal.Gen

variable {F : FTy → Type} [FloatOps F]

/-! # The run of the reference

One device holds the whole table and takes from it the row each id names. -/

/-- The row numbers the reference looks up: an id below zero counts from the end of the table. -/
def wrapped (ids : IVec S2048 32) : IVec S2048 32 :=
  select (cmpi .slt ids (broadcastInDim S2048 ![] bcast_S_S2048 (constantI S_ 32 0#32)))
    (addi ids (broadcastInDim S2048 ![] bcast_S_S2048 (constantI S_ 32 32768#32))) ids

/-- The reference's result: the rows of the table at those numbers. -/
def looked (ids : IVec S2048 32) (tab : FVec F S32768x1024 .f32) : FVec F S2048x1024 .f32 :=
  Host.gather gather_S32768x1024_S2048x1_S2048x1024_1_0_n_n_0_1_11024 tab
    (broadcastInDim S2048x1 ![0] bcast_S2048_S2048x1_0 (wrapped ids))

/-- The program's steps. -/
abbrev steps : List (HloOp τ sig (Elt F)) :=
  [ nullary main_c (constantI S_ 32 0#32),
    unary main_c main_v0 (broadcastInDim S2048 ![] bcast_S_S2048 : (⟨S_, .i32⟩ : BufTy).Contents (Elt F) → (⟨S2048, .i32⟩ : BufTy).Contents (Elt F)),
    binary main_arg0 main_v0 main_v1 (cmpi .slt : (⟨S2048, .i32⟩ : BufTy).Contents (Elt F) → (⟨S2048, .i32⟩ : BufTy).Contents (Elt F) → (⟨S2048, .i1⟩ : BufTy).Contents (Elt F)),
    nullary main_c_0 (constantI S_ 32 32768#32),
    unary main_c_0 main_v2 (broadcastInDim S2048 ![] bcast_S_S2048 : (⟨S_, .i32⟩ : BufTy).Contents (Elt F) → (⟨S2048, .i32⟩ : BufTy).Contents (Elt F)),
    binary main_arg0 main_v2 main_v3 (addi : (⟨S2048, .i32⟩ : BufTy).Contents (Elt F) → (⟨S2048, .i32⟩ : BufTy).Contents (Elt F) → (⟨S2048, .i32⟩ : BufTy).Contents (Elt F)),
    ternary main_v1 main_v3 main_arg0 main_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v4 main_v5 (broadcastInDim S2048x1 ![0] bcast_S2048_S2048x1_0 : (⟨S2048, .i32⟩ : BufTy).Contents (Elt F) → (⟨S2048x1, .i32⟩ : BufTy).Contents (Elt F)),
    binary main_arg1 main_v5 main_v6 ((fun x i => Host.gather gather_S32768x1024_S2048x1_S2048x1024_1_0_n_n_0_1_11024 x i) : (⟨S32768x1024, .f32⟩ : BufTy).Contents (Elt F) → (⟨S2048x1, .i32⟩ : BufTy).Contents (Elt F) → (⟨S2048x1024, .f32⟩ : BufTy).Contents (Elt F)) ]

/-- The program is those steps in a line. -/
theorem main_line (c : Dev nD) : main (F := F) c = seq steps := rfl

/-- After them the result holds the rows looked up, -/
theorem result_after (V : Valuation τ sig (Elt F)) : after steps V (main_v6 : DevRef τ sig)
    = looked (F := F) (V (main_arg0 : DevRef τ sig)) (V (main_arg1 : DevRef τ sig)) := by
  after_results
  rfl

/-- and neither argument has changed. -/
theorem ids_after (V : Valuation τ sig (Elt F)) : after steps V (main_arg0 : DevRef τ sig) = V (main_arg0 : DevRef τ sig) := by
  after_results

theorem table_after (V : Valuation τ sig (Elt F)) : after steps V (main_arg1 : DevRef τ sig) = V (main_arg1 : DevRef τ sig) := by
  after_results

/-- No buffer and no semaphore of the reference is scoped. -/
theorem no_scoped_ref : (Finset.univ.filter fun b : Ref sig .tc => b.isScoped) = ∅ := by decide
theorem no_scoped_sem : (Finset.univ.filter fun s : SemLoc sig => s.isScoped .tc) = ∅ := by decide

/-- The steps touch no buffer but the program's own. -/
theorem steps_sub : (steps : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..⟩

/-- Every execution of the reference ends, with the rows looked up in the result, both arguments as they were, and no
counter above zero (it has none). -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6)
          = looked (F := F) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => ⟨(h c main_v6).trans (result_after _), (h c main_arg0).trans (ids_after _),
      (h c main_arg1).trans (table_after _)⟩, sem_eq_zero_of_no_sems (by decide) r.2⟩)
    (run_seq no_scoped_ref no_scoped_sem defs main (fun _ => steps) main_line (fun _ => steps_sub) m ρ)

end Cert.ReferenceIdeal.Run

end
-- ==== Proof.Equal.lean ====
module

public import proofs.«01_k».proof.Proof.Before
public import proofs.«01_k».proof.Proof.Ref
public import proofs.«01_k».proof.Pre_ids_in_range_KernelIdeal
public import Idealize.ShloMosaic.Lib.Layout
public import Idealize.ShloMosaic.Lib.ReduceAll
public import Idealize.ShloMosaic.Lib.IdealHost
public import Idealize.ShloMosaic.Lib.WordCmp
public import Idealize.ShloMosaic.Lib.Pipeline.Value
public import Idealize.ShloMosaic.Lib.Routing.Ops

@[expose] public section

noncomputable section

namespace Cert.KernelIdeal.Run

open Idealize.ShloMosaic Idealize.ShloMosaic.TcCoe Idealize.SL.Sem Cert.KernelIdeal Cert.KernelIdeal.Gen

/-! # The kernel's result is the reference's

Over the extended reals a change of width changes nothing, so a device's result is rows of the tables alone. An id between 0
and 32767 falls in the part of the table of exactly one of the two devices across the table's cut. -/

/-- The two devices across a cut differ in the coordinate of that cut alone. -/
theorem xn_half (c : Dev nD) : (xn c).val / 2 = 1 - c.val / 2 ∧ (xn c).val % 2 = c.val % 2 := by revert c; decide +kernel
theorem yn_half (c : Dev nD) : (yn c).val / 2 = c.val / 2 ∧ (yn c).val % 2 = 1 - c.val % 2 := by revert c; decide +kernel

/-! ## The precondition, id by id -/

/-- Every id is between 0 and 32767. -/
def InRange (ids : IVec S2048 32) : Prop := ∀ i, (ids i).toNat < 32768

theorem InRange.lt {ids : IVec S2048 32} (h : InRange ids) (i : S2048.Idx) : (ids i).toNat < 32768 := h i

theorem inRange_of [Cert.Pre_ids_in_range_KernelIdeal.Facts] (ids : IVec S2048 32) (tab : FVec Ideal S16384x1024 .f32)
    (h : Cert.Pre_ids_in_range_KernelIdeal.fn (F := Ideal) ids tab = fun _ => 1#1) : InRange ids := by
  intro i
  have h1 := congrFun h (Shape.Idx.first h_S_)
  have h2 := Host.reduce_andi_all _ _ _ _ _ h1 i
  obtain ⟨h3, h4⟩ := IntOp.andi_eq_one.1 h2
  have h5 : (0#32).toInt ≤ (ids i).toInt := IntOp.cmpi_sge.1 h3
  have h6 : (ids i).toInt < (32768#32).toInt := IntOp.cmpi_slt.1 h4
  have e0 : (0#32).toInt = 0 := by decide
  have e1 : (32768#32).toInt = 32768 := by decide
  rw [e0] at h5; rw [e1] at h6
  have := BitVec.toInt_eq_toNat_cond (ids i)
  have hlt := (ids i).isLt
  split at this <;> omega

/-! ## A word counted from the first row of a part -/

variable {w : BitVec 32} {q : Nat}

/-- In its part, it is the row less that first row; -/
theorem sub_base (hq : w.toNat / 16384 = q) (hw : w.toNat < 32768) : (w - BitVec.ofNat 32 (16384 * q)).toNat = w.toNat - 16384 * q := by
  rw [BitVec.toNat_sub, BitVec.toNat_ofNat]
  omega

/-- the bit of the mask says whether it is in its part. -/
theorem part_bit (hq : q < 2) (hw : w.toNat < 32768) :
    IntOp.andi (IntOp.cmpi .sge (w - BitVec.ofNat 32 (16384 * q)) 0#32) (IntOp.cmpi .slt (w - BitVec.ofNat 32 (16384 * q)) 16384#32)
      = BitVec.ofBool (decide (w.toNat / 16384 = q)) := by
  rw [show (16384#32 : BitVec 32) = BitVec.ofNat 32 16384 from rfl, WordCmp.andi_sge_zero_slt_ofNat (by decide)]
  congr 1
  rw [decide_eq_decide, BitVec.toNat_sub, BitVec.toNat_ofNat]
  omega

/-- The row the kernel reads for a word below 16384 is that word. -/
theorem clip_of_lt (h : w.toNat < 16384) : (k0_off3 w) 0 = w.toNat := by
  have hi : w.toInt = w.toNat := by
    have := BitVec.toInt_eq_toNat_cond w
    split at this <;> omega
  show (Scalar.maxsi (Scalar.minsi w 16383#32) 0#32).toNat = _
  have e : (16383#32 : BitVec 32).toInt = 16383 := by decide
  have e' : (0#32 : BitVec 32).toInt = 0 := by decide
  unfold Scalar.maxsi Scalar.minsi IntOp.maxsi IntOp.minsi
  have h0 : ¬ w.slt 0#32 := by rw [BitVec.slt_iff_toInt_lt]; omega
  by_cases h1 : w.slt 16383#32
  · rw [if_pos h1]
    by_cases h2 : (0#32).slt w
    · rw [if_pos h2]
    · rw [if_neg h2]; rw [BitVec.slt_iff_toInt_lt] at h2; show 0 = _; omega
  · rw [if_neg h1]
    rw [BitVec.slt_iff_toInt_lt] at h1
    rw [if_pos (by decide)]
    show 16383 = _; omega

/-! ## One entry of the merge -/

/-- The entry of a chunk's mask at a row. -/
def maskJ (j : S64x1024.Idx) : S64x1.Idx :=
  fun a => ⟨(![(j 0).val, 0] : Fin 2 → Nat) a, by fin_cases a; exacts [(j 0).isLt, Nat.one_pos]⟩

/-- The merge keeps the device's own row where the mask is above zero, and takes the other's elsewhere. -/
theorem merge_apply (a : Vec Ideal S64x1 .f32) (x y : Vec Ideal S64x1024 .bf16) (j : S64x1024.Idx) :
    k0_pay5 a x y j = if (0 : EReal) < a (maskJ j) then x j else y j := by
  unfold k0_pay5
  rw [shapeCast_self, shapeCast_self]
  show Scalar.select (broadcastTo S64x1024 _ broadcasts_S64x1_S64x1024 j) (x j) (y j) = _
  rw [broadcastTo_apply _ _ j (maskJ j) (fun b => by fin_cases b <;> rfl)]
  show Scalar.select (BitVec.ofBool (decide (Ideal.ofBits .f32 0x00000000#32 < a (maskJ j)))) (x j) (y j) = _
  rw [show Ideal.ofBits .f32 0x00000000#32 = 0 by simp [Ideal.ofBits, Ideal.ieee]]
  by_cases h : (0 : EReal) < a (maskJ j)
  · rw [if_pos h, decide_eq_true h]; rfl
  · rw [if_neg h, decide_eq_false h]; rfl

/-- What a device puts in the result is a merge: its own, -/
theorem own_apply (v : Inp Ideal) (c : Dev nD) (k : Fin 16) (j : S64x1024.Idx) :
    ownV v c k j = k0_pay5 (aV v c k) (bV v c k) (bV v (xn c) k) j := rfl

/-- or that of the device across the ids' cut. -/
theorem oth_apply (v : Inp Ideal) (c : Dev nD) (k : Fin 16) (j : S64x1024.Idx) :
    othV v c k j = k0_pay5 (aV v (yn c) k) (bV v (yn c) k) (bV v (xn (yn c)) k) j := by
  unfold othV mV k0_pay75 k0_pay6
  rw [shapeCast_self]
  rfl

/-! ## The rows -/

variable (m : (ℓ : Loc nD τ sig) → Buf (Elt Ideal) ℓ) (ids : IVec S2048 32) (T : (⟨2, ![32768, 1024]⟩ : Shape).Idx → EReal)

/-- The devices hold the ids, every one in range, and each its part of the table. -/
structure Given : Prop where
  hids : ∀ c : Dev nD, m ((c : Thread nD τ).loc main_arg0) = ids
  htab : ∀ c : Dev nD, m ((c : Thread nD τ).loc main_arg1)
    = Layout.blockN ⟨2, ![16384, 1024]⟩ ⟨2, ![32768, 1024]⟩ (Layout.meshBlock [2, 2] ![[0], []] c) T
  range : InRange ids

/-- The row of the whole table an id in range names. -/
def wanted (w : BitVec 32) (hw : w.toNat < 32768) (x : Fin 1024) : (⟨2, ![32768, 1024]⟩ : Shape).Idx := ValueIdx.ix2 (⟨w.toNat, hw⟩ : Fin 32768) x

theorem wanted_congr {w w' : BitVec 32} (e : w = w') (hw : w.toNat < 32768) (hw' : w'.toNat < 32768) (x : Fin 1024) :
    wanted w hw x = wanted w' hw' x := by subst e; rfl

/-- It is the row the kernel reads for the local id, counted from the part's first row, -/
theorem row_eq {w l : BitVec 32} {q : Nat} (hw : w.toNat < 32768) (h : w.toNat / 16384 = q) (hl : l.toNat = w.toNat - 16384 * q)
    (x y : Fin 1024) : (wanted w hw x 0).val = 16384 * q + (tabIx l y 0).val := by
  show w.toNat = 16384 * q + (k0_off3 l) 0
  rw [clip_of_lt (by omega), hl]
  omega

/-- and the columns are the same. -/
theorem col_eq {w : BitVec 32} (l : BitVec 32) (hw : w.toNat < 32768) {x y : Fin 1024} (h : x.val = y.val) :
    (wanted w hw x 1).val = (tabIx l y 1).val := h

variable {m ids T} (G : Given m ids T) (c : Dev nD)
include G

/-- The local ids of a device. -/
theorem ids_apply (i : S1024.Idx) (r : Nat) (hr : r < 1024) (e : (i 0).val = r) :
    (v₀ m).ids c i = ids (idIx c r hr) - BitVec.ofNat 32 (16384 * (c.val / 2)) := by
  subst e
  show V1 m c main_v16 i = _
  rw [given_ids, G.hids, locIds_apply]

omit G in
/-- The place among a device's ids of a row of its mask. -/
def maskI (i : S1024x1.Idx) : S1024.Idx := fun a => ⟨(i 0).val, by fin_cases a; exact (i 0).isLt⟩

/-- The mask of a device is above zero at the ids of its part. -/
theorem mask_apply (i : S1024x1.Idx) (r : Nat) (hr : r < 1024) (e : (i 0).val = r) :
    (0 : EReal) < (v₀ m).msk c i ↔ (ids (idIx c r hr)).toNat / 16384 = c.val / 2 := by
  subst e
  show (0 : EReal) < (V1 m c main_v23 : S1024x1.Idx → EReal) i ↔ _
  rw [given_mask, G.hids]
  have hc : c.val < 4 := c.isLt
  have hb : inPart c ids (maskI i)
      = BitVec.ofBool (decide ((ids (idIx c (i 0).val hr)).toNat / 16384 = c.val / 2)) := by
    show IntOp.andi (IntOp.cmpi .sge (locIds c ids _) 0#32) (IntOp.cmpi .slt (locIds c ids _) 16384#32) = _
    rw [locIds_apply]
    exact part_bit (by omega) (G.range.lt _)
  have he : broadcastInDim S1024x1 ![0] bcast_S1024_S1024x1_0 (uitofp (F := Ideal) .f32 (inPart c ids)) i
      = (((inPart c ids (maskI i)).toNat : ℝ) : EReal) := by
    show (((inPart c ids _).toNat : ℝ) : EReal) = _
    congr 4
    funext a
    obtain rfl : a = 0 := Subsingleton.elim _ _
    rfl
  rw [he, hb]
  by_cases h : (ids (idIx c (i 0).val hr)).toNat / 16384 = c.val / 2
  · rw [decide_eq_true h]; simp [h]
  · rw [decide_eq_false h]; simp [h]

/-- A device's part of the table, row by row. -/
theorem table_apply (i : S16384x1024.Idx) (k : (⟨2, ![32768, 1024]⟩ : Shape).Idx)
    (h0 : (k 0).val = 16384 * (c.val / 2) + (i 0).val) (h1 : (k 1).val = (i 1).val) : (v₀ m).tab c i = T k := by
  show V1 m c main_arg1 i = _
  rw [given_table, G.htab]
  show T _ = T k
  congr 1
  funext a
  apply Fin.ext
  rw [Layout.TilesN.idx_val]
  fin_cases a
  · have e : ((Layout.meshBlock [2, 2] ![[0], []] c) (0 : Fin 2)).val = c.val / 2 := by clear h0; revert c; decide +kernel
    show ((Layout.meshBlock [2, 2] ![[0], []] c) (0 : Fin 2)).val * 16384 + (i 0).val = (k 0).val
    rw [e, h0]; omega
  · show 0 * 1024 + (i 1).val = (k 1).val
    omega

/-- A gathered row whose id falls in the device's part is the table's row of that id. -/
theorem gath_apply (i : S1024x1024.Idx) (r : Nat) (hr : r < 1024) (e : (i 0).val = r) (x : Fin 1024) (ex : (i 1).val = x.val)
    (h : (ids (idIx c r hr)).toNat / 16384 = c.val / 2) :
    gath (v₀ m) c i = T (wanted (ids (idIx c r hr)) (G.range.lt _) x) := by
  have hw := G.range.lt (idIx c r hr)
  have es : ((v₀ m).ids c (rowIx i)).toNat = (ids (idIx c r hr)).toNat - 16384 * (c.val / 2) := by
    rw [ids_apply G c (rowIx i) r hr e]
    exact sub_base h hw
  exact table_apply G c _ _ (row_eq hw h es x (i 1)) (col_eq _ hw ex.symm)

/-! ## A chunk of the result -/

/-- A merged row is the table's row of its id, whichever of the two devices across the table's cut holds it. -/
theorem merged_apply (k : Fin 16) (j : S64x1024.Idx) (r : Nat) (hr : r < 1024) (e : 64 * k.val + (j 0).val = r)
    (x : Fin 1024) (ex : (j 1).val = x.val) :
    k0_pay5 (aV (v₀ m) c k) (bV (v₀ m) c k) (bV (v₀ m) (xn c) k) j = T (wanted (ids (idIx c r hr)) (G.range.lt _) x) := by
  have hrow : ((chunkR k).emb j 0).val = r := by
    rw [Rect.emb_apply]; show 64 * k.val + 1 * (j 0).val = r; omega
  have hcol : ((chunkR k).emb j 1).val = x.val := by
    rw [Rect.emb_apply]; show 0 + 1 * (j 1).val = _; omega
  have hmrow : ((maskR k).emb (maskJ j) 0).val = r := by
    rw [Rect.emb_apply]; show 64 * k.val + 1 * (j 0).val = r; omega
  have hb : ∀ d, bV (v₀ m) d k j = gath (v₀ m) d ((chunkR k).emb j) := fun d => by
    unfold bV k0_pay1
    rw [shapeCast_self]; rfl
  have hm : (0 : EReal) < aV (v₀ m) c k (maskJ j) ↔ _ := mask_apply G c ((maskR k).emb (maskJ j)) r hr hmrow
  rw [merge_apply, hb, hb]
  by_cases h : (ids (idIx c r hr)).toNat / 16384 = c.val / 2
  · rw [if_pos (hm.mpr h), gath_apply G c _ r hr hrow x hcol h]
  · rw [if_neg fun h' => h (hm.mp h')]
    have hi : idIx (xn c) r hr = idIx c r hr := by
      funext a; apply Fin.ext
      show 1024 * ((xn c).val % 2) + r = 1024 * (c.val % 2) + r
      rw [(xn_half c).2]
    have hw := G.range.lt (idIx c r hr)
    have hc : c.val < 4 := c.isLt
    exact (gath_apply G (xn c) _ r hr hrow x hcol (by rw [hi, (xn_half c).1]; omega)).trans
      (congrArg T (wanted_congr (congrArg ids hi) _ _ x))

/-- Every row of a device's result is the table's row of its id. -/
theorem out_apply (i : S2048x1024.Idx) (p : S2048.Idx) (hp : (p 0).val = (i 0).val) (x : Fin 1024) (ex : (i 1).val = x.val) :
    outV (v₀ m) c i = T (wanted (ids p) (G.range.lt _) x) := by
  have hi : (i 0).val < 2048 := (i 0).isLt
  have hc : c.val % 2 = 0 ∨ c.val % 2 = 1 := by omega
  have hj : 64 * (outK i).val + (outJ i 0).val = (i 0).val % 1024 := by
    show 64 * ((i 0).val % 1024 / 64) + (i 0).val % 64 = _; omega
  have hx : (outJ i 1).val = x.val := ex
  have key : ∀ d : Dev nD, d.val % 2 = (i 0).val / 1024 → idIx d ((i 0).val % 1024) (by omega) = p := fun d hd => by
    funext a; apply Fin.ext
    obtain rfl : a = 0 := Subsingleton.elim _ _
    show 1024 * (d.val % 2) + (i 0).val % 1024 = (p 0).val
    rw [hd, hp]; omega
  unfold outV
  by_cases h : (i 0).val / 1024 = c.val % 2
  · rw [if_pos h]
    exact (own_apply ..).trans ((merged_apply G c (outK i) (outJ i) _ (by omega) hj x hx).trans
      (congrArg T (wanted_congr (congrArg ids (key c h.symm)) _ _ x)))
  · rw [if_neg h]
    exact (oth_apply ..).trans ((merged_apply G (yn c) (outK i) (outJ i) _ (by omega) hj x hx).trans
      (congrArg T (wanted_congr (congrArg ids (key (yn c) (by rw [(yn_half c).2]; omega))) _ _ x)))

/-! ## The reference -/

omit G in
/-- The reference looks an id in range up as it is. -/
theorem wrapped_apply (hr : InRange ids) (p : S2048.Idx) : Cert.ReferenceIdeal.Run.wrapped ids p = ids p := by
  show Scalar.select (IntOp.cmpi .slt (ids p) 0#32) _ (ids p) = _
  have h := hr.lt p
  rw [WordCmp.cmpi_slt_zero, decide_eq_false (by omega)]
  rfl

omit G in
/-- So its result, too, is the table's rows of the ids. -/
theorem looked_apply (hr : InRange ids) (p : Fin 2048) (x : Fin 1024) :
    Cert.ReferenceIdeal.Run.looked (F := Ideal) ids T (ValueIdx.ix2 p x)
      = T (wanted (ids (ValueIdx.ix1 p)) (hr.lt _) x) := by
  unfold Cert.ReferenceIdeal.Run.looked
  refine Routing.gather_row _ rfl rfl rfl rfl rfl T _ p x ⟨(ids (ValueIdx.ix1 p)).toNat, hr.lt _⟩ ?_ (by norm_num)
  show Cert.ReferenceIdeal.Run.wrapped ids _ = BitVec.ofNat 32 (ids (ValueIdx.ix1 p)).toNat
  rw [wrapped_apply hr, BitVec.ofNat_toNat, BitVec.setWidth_eq]
  congr 1
  funext a
  obtain rfl : a = 0 := Subsingleton.elim _ _
  rfl

/-- Every device's result is the reference's. -/
theorem out_eq_looked : outV (v₀ m) c = Cert.ReferenceIdeal.Run.looked (F := Ideal) ids T := by
  funext i
  have h0 : (i 0).val < 2048 := (i 0).isLt
  have h1 : (i 1).val < 1024 := (i 1).isLt
  have e : i = ValueIdx.ix2 (⟨(i 0).val, h0⟩ : Fin 2048) (⟨(i 1).val, h1⟩ : Fin 1024) := by
    funext a; fin_cases a <;> rfl
  have hr := looked_apply (T := T) G.range (⟨(i 0).val, h0⟩ : Fin 2048) (⟨(i 1).val, h1⟩ : Fin 1024)
  rw [← e] at hr
  exact (out_apply G c i (ValueIdx.ix1 (⟨(i 0).val, h0⟩ : Fin 2048)) rfl ⟨(i 1).val, h1⟩ rfl).trans hr.symm

end Cert.KernelIdeal.Run

end
-- ==== Proof.lean ====
module

public import proofs.«01_k».proof.Defs
public import proofs.«01_k».proof.Proof.FrameK
public import proofs.«01_k».proof.Proof.Equal
public import proofs.«01_k».proof.Proof.Gen.Kernel
public import proofs.«01_k».proof.Proof.Gen.KernelIdeal
public import proofs.«01_k».proof.Proof.Gen.ReferenceIdeal

@[expose] public section

namespace Cert.Proof

open Idealize.ShloMosaic Idealize.ShloMosaic.TcCoe Idealize.SL.Sem

/-! # The claims

Each frame is a run with the values dropped. The two results are equal by Proof/Equal.lean. -/

/-- The shape facts the precondition states, over a device's arrays and over the whole ones. -/
theorem preFacts : Cert.Pre_ids_in_range_KernelIdeal.Facts where
  bcast_S_S2048 := by decide
  reducesTo_S2048_S_d0 := by decide
  h_S_ := by decide

theorem preFactsWhole : Cert.Pre_ids_in_range_ReferenceIdeal.Facts where
  bcast_S_S2048 := by decide
  reducesTo_S2048_S_d0 := by decide
  h_S_ := by decide

attribute [local instance] preFacts preFactsWhole

/-- The kernel's frame at the machine's floats. -/
theorem frame_kernel : Cert.quiescent_Kernel := quiescent_same.mp (framed Bits)

/-- The kernel's frame over the extended reals, with no precondition -/
theorem frame_kernelIdeal : Cert.quiescent_KernelIdeal := fun m ρ _ => framed Ideal m ρ trivial

/-- and under the one the equality is stated with. -/
theorem frame_kernelIdeal_pre : Cert.quiescent_KernelIdeal_pre_ids_in_range_KernelIdeal := fun m ρ _ => framed Ideal m ρ trivial

/-- The reference's frame over the extended reals, -/
theorem frame_reference : Cert.quiescent_ReferenceIdeal := fun m ρ _ =>
  (θ_run Cert.ReferenceIdeal.defs _ _).mono (fun _ h => ⟨fun c => (h.1 c).2, h.2⟩) (Cert.ReferenceIdeal.Run.run_main (F := Ideal) m ρ)

/-- and under the same precondition. -/
theorem frame_reference_pre : Cert.quiescent_ReferenceIdeal_pre_ids_in_range_ReferenceIdeal := fun m ρ _ =>
  (θ_run Cert.ReferenceIdeal.defs _ _).mono (fun _ h => ⟨fun c => (h.1 c).2, h.2⟩) (Cert.ReferenceIdeal.Run.run_main (F := Ideal) m ρ)

/-- The idealized kernel is the kernel's own text. -/
theorem preserved : Cert.preserves_Kernel_KernelIdeal := trivial

/-- From ids in range, the same on every device, and a table cut in two, every device ends with the rows of the whole table
the ids name: what the reference ends with. -/
theorem equal : Cert.algebraic_KernelIdeal_ReferenceIdeal_pre_ids_in_range_KernelIdeal := by
  intro m ρ m' ρ' hpre hsame
  have G : Cert.KernelIdeal.Run.Given m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (hsame c).1, fun c => (hsame c).2, by
      rw [← (hsame 0).1]
      exact Cert.KernelIdeal.Run.inRange_of _ _ (hpre 0)⟩
  refine ⟨_, ?_, (θ_run Cert.ReferenceIdeal.defs _ _).mono (fun _ h => h.1 0) (Cert.ReferenceIdeal.Run.run_main (F := Ideal) m' ρ')⟩
  exact (θ_run Cert.KernelIdeal.defs _ _).mono
    (fun _ h c => ⟨(h.1 c).2.2.trans (Cert.KernelIdeal.Run.out_eq_looked G c), (h.1 c).1, (h.1 c).2.1⟩)
    (Cert.KernelIdeal.Run.run_main (F := Ideal) m ρ)

/-- Everything claimed. -/
theorem claim : Cert.Claim :=
  ⟨Cert.Kernel.Gen.facts, Cert.KernelIdeal.Gen.facts, Cert.ReferenceIdeal.Gen.facts, preFacts, preFactsWhole,
    frame_kernel, frame_kernelIdeal, frame_kernelIdeal_pre, frame_reference, frame_reference_pre, preserved, equal⟩

end Cert.Proof

end
